-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![4096, 512]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S2x512 : Shape := ⟨2, ![2, 512]⟩
abbrev S8x2x512 : Shape := ⟨3, ![8, 2, 512]⟩
abbrev S2x2x256 : Shape := ⟨3, ![2, 2, 256]⟩
abbrev S2x7 : Shape := ⟨2, ![2, 7]⟩
abbrev S2x8 : Shape := ⟨2, ![2, 8]⟩
abbrev S_ : Shape := ⟨0, ![]⟩
abbrev S512x256 : Shape := ⟨2, ![512, 256]⟩
abbrev S256 : Shape := ⟨1, ![256]⟩
abbrev S1x256 : Shape := ⟨2, ![1, 256]⟩
abbrev S1x1x256 : Shape := ⟨3, ![1, 1, 256]⟩
abbrev S1x1 : Shape := ⟨2, ![1, 1]⟩
abbrev S1x2x256 : Shape := ⟨3, ![1, 2, 256]⟩
abbrev S2x256 : Shape := ⟨2, ![2, 256]⟩

abbrev nBuf : Space → Nat
  | .hbm => 2
  | .vmem => 4
  | .smem => 0
  | _ => 0

abbrev bufTy : (tb : Table) → Fin (tcTables nBuf tb) → BufTy
  | .hbm, ⟨0, _⟩ => ⟨S512x512, .f32⟩
  | .hbm, ⟨1, _⟩ => ⟨S2x512, .f32⟩
  | .local _ .vmem, ⟨0, _⟩ => ⟨S512x512, .f32⟩
  | .local _ .vmem, ⟨1, _⟩ => ⟨S2x512, .f32⟩
  | .local _ .vmem, ⟨2, _⟩ => ⟨S8x2x512, .f32⟩
  | .local _ .vmem, ⟨3, _⟩ => ⟨S2x2x256, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_37 : BitVec 32 := 1#32
  let v53 : BitVec 32 := Scalar.addi v2 c1_i32_37
  let c8_i32_38 : BitVec 32 := 8#32
  let v54 : BitVec 32 := Scalar.remsi v53 c8_i32_38
  let c1_i32_45 : BitVec 32 := 1#32
  let v55 : BitVec 32 := Scalar.muli v54 c1_i32_45
  let v56 : BitVec 32 := Scalar.addi c0_i32_46 v55
  v56.toNat
def k0_dev9 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_51 : BitVec 32 := 2#32
  let v65 : BitVec 32 := Scalar.addi v2 c2_i32_51
  let c8_i32_52 : BitVec 32 := 8#32
  let v66 : BitVec 32 := Scalar.remsi v65 c8_i32_52
  let c1_i32_59 : BitVec 32 := 1#32
  let v67 : BitVec 32 := Scalar.muli v66 c1_i32_59
  let v68 : BitVec 32 := Scalar.addi c0_i32_60 v67
  v68.toNat
def k0_dev10 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_65 : BitVec 32 := 3#32
  let v77 : BitVec 32 := Scalar.addi v2 c3_i32_65
  let c8_i32_66 : BitVec 32 := 8#32
  let v78 : BitVec 32 := Scalar.remsi v77 c8_i32_66
  let c1_i32_73 : BitVec 32 := 1#32
  let v79 : BitVec 32 := Scalar.muli v78 c1_i32_73
  let v80 : BitVec 32 := Scalar.addi c0_i32_74 v79
  v80.toNat
def k0_dev11 (d0 : Dev nD) : Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_79 : BitVec 32 := 4#32
  let v89 : BitVec 32 := Scalar.addi v2 c4_i32_79
  let c8_i32_80 : BitVec 32 := 8#32
  let v90 : BitVec 32 := Scalar.remsi v89 c8_i32_80
  let c1_i32_87 : BitVec 32 := 1#32
  let v91 : BitVec 32 := Scalar.muli v90 c1_i32_87
  let v92 : BitVec 32 := Scalar.addi c0_i32_88 v91
  v92.toNat
def k0_dev12 (d0 : Dev nD) : Nat :=
  let c0_i32_102 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_93 : BitVec 32 := 5#32
  let v101 : BitVec 32 := Scalar.addi v2 c5_i32_93
  let c8_i32_94 : BitVec 32 := 8#32
  let v102 : BitVec 32 := Scalar.remsi v101 c8_i32_94
  let c1_i32_101 : BitVec 32 := 1#32
  let v103 : BitVec 32 := Scalar.muli v102 c1_i32_101
  let v104 : BitVec 32 := Scalar.addi c0_i32_102 v103
  v104.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_107 : BitVec 32 := 6#32
  let v113 : BitVec 32 := Scalar.addi v2 c6_i32_107
  let c8_i32_108 : BitVec 32 := 8#32
  let v114 : BitVec 32 := Scalar.remsi v113 c8_i32_108
  let c1_i32_115 : BitVec 32 := 1#32
  let v115 : BitVec 32 := Scalar.muli v114 c1_i32_115
  let v116 : BitVec 32 := Scalar.addi c0_i32_116 v115
  v116.toNat
def k0_dev14 (d0 : Dev nD) : Nat :=
  let c0_i32_130 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_121 : BitVec 32 := 7#32
  let v125 : BitVec 32 := Scalar.addi v2 c7_i32_121
  let c8_i32_122 : BitVec 32 := 8#32
  let v126 : BitVec 32 := Scalar.remsi v125 c8_i32_122
  let c1_i32_129 : BitVec 32 := 1#32
  let v127 : BitVec 32 := Scalar.muli v126 c1_i32_129
  let v128 : BitVec 32 := Scalar.addi c0_i32_130 v127
  v128.toNat
def k0_dev15 (d0 : Dev nD) : Nat :=
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_146 : BitVec 32 := 1#32
  let v157 : BitVec 32 := Scalar.addi v2 c1_i32_146
  let c8_i32_147 : BitVec 32 := 8#32
  let v158 : BitVec 32 := Scalar.remsi v157 c8_i32_147
  let c1_i32_154 : BitVec 32 := 1#32
  let v159 : BitVec 32 := Scalar.muli v158 c1_i32_154
  let v160 : BitVec 32 := Scalar.addi c0_i32_155 v159
  v160.toNat
def k0_dev16 (d0 : Dev nD) : Nat :=
  let c0_i32_168 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_159 : BitVec 32 := 2#32
  let v169 : BitVec 32 := Scalar.addi v2 c2_i32_159
  let c8_i32_160 : BitVec 32 := 8#32
  let v170 : BitVec 32 := Scalar.remsi v169 c8_i32_160
  let c1_i32_167 : BitVec 32 := 1#32
  let v171 : BitVec 32 := Scalar.muli v170 c1_i32_167
  let v172 : BitVec 32 := Scalar.addi c0_i32_168 v171
  v172.toNat
def k0_dev17 (d0 : Dev nD) : Nat :=
  let c0_i32_182 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_173 : BitVec 32 := 3#32
  let v181 : BitVec 32 := Scalar.addi v2 c3_i32_173
  let c8_i32_174 : BitVec 32 := 8#32
  let v182 : BitVec 32 := Scalar.remsi v181 c8_i32_174
  let c1_i32_181 : BitVec 32 := 1#32
  let v183 : BitVec 32 := Scalar.muli v182 c1_i32_181
  let v184 : BitVec 32 := Scalar.addi c0_i32_182 v183
  v184.toNat
def k0_dev18 (d0 : Dev nD) : Nat :=
  let c0_i32_196 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_187 : BitVec 32 := 4#32
  let v193 : BitVec 32 := Scalar.addi v2 c4_i32_187
  let c8_i32_188 : BitVec 32 := 8#32
  let v194 : BitVec 32 := Scalar.remsi v193 c8_i32_188
  let c1_i32_195 : BitVec 32 := 1#32
  let v195 : BitVec 32 := Scalar.muli v194 c1_i32_195
  let v196 : BitVec 32 := Scalar.addi c0_i32_196 v195
  v196.toNat
def k0_dev19 (d0 : Dev nD) : Nat :=
  let c0_i32_210 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_201 : BitVec 32 := 5#32
  let v205 : BitVec 32 := Scalar.addi v2 c5_i32_201
  let c8_i32_202 : BitVec 32 := 8#32
  let v206 : BitVec 32 := Scalar.remsi v205 c8_i32_202
  let c1_i32_209 : BitVec 32 := 1#32
  let v207 : BitVec 32 := Scalar.muli v206 c1_i32_209
  let v208 : BitVec 32 := Scalar.addi c0_i32_210 v207
  v208.toNat
def k0_dev20 (d0 : Dev nD) : Nat :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_215 : BitVec 32 := 6#32
  let v217 : BitVec 32 := Scalar.addi v2 c6_i32_215
  let c8_i32_216 : BitVec 32 := 8#32
  let v218 : BitVec 32 := Scalar.remsi v217 c8_i32_216
  let c1_i32_223 : BitVec 32 := 1#32
  let v219 : BitVec 32 := Scalar.muli v218 c1_i32_223
  let v220 : BitVec 32 := Scalar.addi c0_i32_224 v219
  v220.toNat
def k0_dev21 (d0 : Dev nD) : Nat :=
  let c0_i32_238 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_229 : BitVec 32 := 7#32
  let v229 : BitVec 32 := Scalar.addi v2 c7_i32_229
  let c8_i32_230 : BitVec 32 := 8#32
  let v230 : BitVec 32 := Scalar.remsi v229 c8_i32_230
  let c1_i32_237 : BitVec 32 := 1#32
  let v231 : BitVec 32 := Scalar.muli v230 c1_i32_237
  let v232 : BitVec 32 := Scalar.addi c0_i32_238 v231
  v232.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x512 : Shape := ⟨2, ![4096, 512]⟩
abbrev S_ : Shape := ⟨0, ![]⟩
abbrev S512 : Shape := ⟨1, ![512]⟩
abbrev S1x512 : Shape := ⟨2, ![1, 512]⟩
abbrev S2x512 : Shape := ⟨2, ![2, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .i32⟩
  | .hbm, ⟨2, _⟩ => ⟨S_, .f32⟩
  | .hbm, ⟨3, _⟩ => ⟨S_, .i32⟩
  | .hbm, ⟨4, _⟩ => ⟨S512, .f32⟩
  | .hbm, ⟨5, _⟩ => ⟨S512, .i32⟩
  | .hbm, ⟨6, _⟩ => ⟨S512, .f32⟩
  | .hbm, ⟨7, _⟩ => ⟨S_, .f32⟩
  | .hbm, ⟨8, _⟩ => ⟨S512, .f32⟩
  | .hbm, ⟨9, _⟩ => ⟨S1x512, .f32⟩
  | .hbm, ⟨10, _⟩ => ⟨S1x512, .f32⟩
  | .hbm, ⟨11, _⟩ => ⟨S2x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Proof.Protocol.lean ====
/-
# The exchange of the winners: cells, contents, and the schedule of payments

Eight devices. Each reduces its own block to a row of maxima and a row of positions, in two halves of 256 columns,
packs both rows of a half into `send_buf`, and copies the pack to the seven other devices. Offset `k + 1` (`k : Fin 7`)
leads from device `c` to `peer c k`, and the pack lands there in slot `7 - k` of `part_buf`; seen from the receiver `r`,
slot `a + 1` is written by `peer r a`.

Three kinds of cells: the barrier of a device (seven payments of one unit, one per other device, each handing over the
slot that the payee will write), one send cell per half and offset (its payment hands a share of the pack back), one
receive cell per half and slot (its payment hands the filled slot over).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The algebra: the pipeline's copy and the exchange's, duties named by `Fin 7` -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The devices -/

set_option backward.proofsInPublic true in
/-- The device `s` places further round. -/
def rot (c : Dev nD) (s : Fin 8) : Dev nD := ⟨(c.val + s.val) % 8, Nat.mod_lt _ (by decide)⟩
set_option backward.proofsInPublic true in
/-- The device that offset `k + 1` leads to. -/
def peer (c : Dev nD) (k : Fin 7) : Dev nD := ⟨(c.val + (k.val + 1)) % 8, Nat.mod_lt _ (by decide)⟩

theorem rot_succ (c : Dev nD) (k : Fin 7) : rot c k.succ = peer c k := rfl
/-- Going on by the opposite offset comes back. -/
theorem peer_rev (c : Dev nD) (k : Fin 7) : peer (peer c k) k.rev = c := by revert c k; decide

/-- Device and offset turned round: whom `c` reaches by `k`, and the offset that leads back. -/
def turn : Dev nD × Fin 7 ≃ Dev nD × Fin 7 where
  toFun x := (peer x.1 x.2, x.2.rev)
  invFun x := (peer x.1 x.2, x.2.rev)
  left_inv x := by simp only [peer_rev, Fin.rev_rev]
  right_inv x := by simp only [peer_rev, Fin.rev_rev]

/-! ## The memrefs -/

abbrev xM : Memref sig .tc .vmem S512x512 .f32 := Memref.whole cc0_stg0_0
abbrev oM : Memref sig .tc .vmem S2x512 .f32 := Memref.whole cc0_stg1_0
abbrev pM : Memref sig .tc .vmem S8x2x512 .f32 := Memref.whole cc0_scratch0
abbrev bM : Memref sig .tc .vmem S2x2x256 .f32 := Memref.whole cc0_scratch1

theorem land_inb (s : Fin 8) (h : Fin 2) : ∀ a, (![s.val, 0, 256 * h.val] : Fin 3 → ℕ) a + S1x2x256.size a ≤ S8x2x512.size a := by
  revert s h; decide
theorem send_inb (h : Fin 2) : ∀ a, (![h.val, 0, 0] : Fin 3 → ℕ) a + S1x2x256.size a ≤ S2x2x256.size a := by
  revert h; decide

abbrev landR (s : Fin 8) (h : Fin 2) : Rect S8x2x512 := Rect.unit (s := S8x2x512) ![s.val, 0, 256 * h.val] S1x2x256.size (land_inb s h)
abbrev sendR (h : Fin 2) : Rect S2x2x256 := Rect.unit (s := S2x2x256) ![h.val, 0, 0] S1x2x256.size (send_inb h)

/-- Half `h` of slot `s` of `part_buf`. -/
abbrev landM (s : Fin 8) (h : Fin 2) : Memref sig .tc .vmem S2x256 .f32 :=
  (pM.slice (landR s h) (fun _ => rfl)).squeeze S2x256 squeezes_S1x2x256_S2x256
/-- The pack of half `h`. -/
abbrev sendM (h : Fin 2) : Memref sig .tc .vmem S2x256 .f32 :=
  (bM.slice (sendR h) (fun _ => rfl)).squeeze S2x256 squeezes_S1x2x256_S2x256

/-- The credit of one copy of a pack. -/
abbrev N : ℕ := (landM 1 0).view.dmaCredit
theorem N_pos : 0 < N := View.dmaCredit_pos _ (by decide)

/-! ## The cells -/

abbrev barS : Sem sig := (SemArray.scalar (sig.barrier 0 rfl) : Sems sig S_).sem

theorem sems_inb (h : Fin 2) (k : Fin 7) : ∀ a, (![h.val, k.val] : Fin 2 → ℕ) a + S1x1.size a ≤ S2x7.size a := by
  revert h k; decide
theorem semr_inb (h : Fin 2) (s : Fin 8) : ∀ a, (![h.val, s.val] : Fin 2 → ℕ) a + S1x1.size a ≤ S2x8.size a := by
  revert h s; decide

/-- The send semaphore of half `h`, offset `k + 1`. -/
abbrev sendS (h : Fin 2) (k : Fin 7) : DmaSem sig :=
  ((cc0_scratch2.slice (Rect.unit (s := S2x7) ![h.val, k.val] S1x1.size (sems_inb h k))).squeeze S_ squeezes_S1x1_S_).sem
/-- The receive semaphore of half `h`, slot `s`. -/
abbrev recvS (h : Fin 2) (s : Fin 8) : DmaSem sig :=
  ((cc0_scratch3.slice (Rect.unit (s := S2x8) ![h.val, s.val] S1x1.size (semr_inb h s))).squeeze S_ squeezes_S1x1_S_).sem

abbrev barCell (c : Dev nD) : GSem nD τ sig := ((c : Thread nD τ), .reg barS)
abbrev sendCell (c : Dev nD) (h : Fin 2) (k : Fin 7) : GSem nD τ sig := ((c : Thread nD τ), .dma (sendS h k))
abbrev recvCell (c : Dev nD) (h : Fin 2) (a : Fin 7) : GSem nD τ sig := ((c : Thread nD τ), .dma (recvS h a.succ))

/-- What a DMA semaphore is for: a send (`false`) or a receive (`true`) of a half, at an offset or a slot. -/
def kindOf (q : DmaSem sig) : Option (Bool × Fin 2 × Fin 7) :=
  if q.val < 2 then none
  else if q.val < 16 then some (false, ⟨(q.val - 2) / 7 % 2, Nat.mod_lt _ (by decide)⟩, ⟨(q.val - 2) % 7, Nat.mod_lt _ (by decide)⟩)
  else if (q.val - 16) % 8 = 0 then none
  else some (true, ⟨(q.val - 16) / 8 % 2, Nat.mod_lt _ (by decide)⟩, ⟨((q.val - 16) % 8 - 1) % 7, Nat.mod_lt _ (by decide)⟩)

theorem kind_send (h : Fin 2) (k : Fin 7) : kindOf (sendS h k) = some (false, h, k) := by revert h k; decide +kernel
theorem kind_recv (h : Fin 2) (a : Fin 7) : kindOf (recvS h a.succ) = some (true, h, a) := by revert h a; decide +kernel

/-! ## The contents -/

/-- Device `c`'s block of the argument, as the pipeline stages it. -/
def xstg (c : Dev nD) : (cc0_stg0_0 : Ref sig .tc).ty.Contents (Elt F) :=
  (win0_0.blk (0 : Fin 1)).view.read (Elt F) ((s₀ m ρ).mem ((c : Thread nD τ).loc main_arg0))

theorem x_inb (h : Fin 2) : ∀ a, (![0, 256 * h.val] : Fin 2 → ℕ) a + S512x256.size a ≤ S512x512.size a := by revert h; decide
abbrev xR (h : Fin 2) : Rect S512x512 := Rect.unit (s := S512x512) ![0, 256 * h.val] S512x256.size (x_inb h)

/-- Half `h` of the columns of device `c`'s block. -/
def xhalf (c : Dev nD) (h : Fin 2) : Vec F S512x256 .f32 := xM.view.readAt (Elt F) (xR h).toLoadRect (xstg m ρ c)

/-- The device's own number, as the body computes it. -/
def word (c : Dev nD) : BitVec 32 := Scalar.remsi (Scalar.divsi (Dev.word c) 1#32) 8#32

/-- The column maxima of half `h` of device `c`'s block. -/
def locV (c : Dev nD) (h : Fin 2) : FVec F S1x256 .f32 := k0_pay2 (xhalf m ρ c h)
/-- The first rows that reach them, counted over all the devices' rows. -/
def locI (c : Dev nD) (h : Fin 2) : FVec F S1x256 .f32 := k0_pay3 (word c) (xhalf m ρ c h)

/-- Index `(0, j)` of a row of 256. -/
def col (j : ℕ) : S1x256.Idx := fun a => match a with
  | ⟨0, _⟩ => ⟨0, Nat.one_pos⟩
  | ⟨1, _⟩ => ⟨j % 256, Nat.mod_lt _ (by decide)⟩

/-- What `send_buf` holds on device `c` once packed: half, row (maxima, positions), column. -/
def sendC (c : Dev nD) : (cc0_scratch1 : Ref sig .tc).ty.Contents (Elt F) := fun i =>
  if (i 1).val = 0 then locV m ρ c (i 0) (col (i 2).val) else locI m ρ c (i 0) (col (i 2).val)

set_option backward.proofsInPublic true in
/-- What `part_buf` holds on device `c` once filled: in slot `s` the pack of the device `s` places further round. -/
def landC (c : Dev nD) : (cc0_scratch0 : Ref sig .tc).ty.Contents (Elt F) := fun i =>
  if (i 1).val = 0 then locV m ρ (rot c (i 0)) ⟨(i 2).val / 256 % 2, Nat.mod_lt _ (by decide)⟩ (col (i 2).val)
  else locI m ρ (rot c (i 0)) ⟨(i 2).val / 256 % 2, Nat.mod_lt _ (by decide)⟩ (col (i 2).val)

/-- Half `h` of slot `s` of device `c`'s `part_buf`, owned at contents `f`. -/
def slotPts (c : Dev nD) (s : Fin 8) (h : Fin 2) (f : Buf (Elt F) ((landM s h).view.loc (c : Thread nD τ))) : sProp 𝕄 :=
  (landM s h).view.loc (c : Thread nD τ) ↦[(landM s h).view.set]{fullShare} f

/-- The share of a pack that the copy at offset `k + 1` borrows. -/
def shr (k : Fin 7) : PosShare TreeShare := Transfers.dealOf fullShare Finset.univ k

/-- Half `h` of device `c`'s packed `send_buf`, at the share `q`. -/
def packPts (c : Dev nD) (h : Fin 2) (q : PosShare TreeShare) : sProp 𝕄 :=
  (sendM h).view.loc (c : Thread nD τ) ↦[(sendM h).view.set]{q} (sendC m ρ c)

omit [FloatOps F] in
instance slotPts_storable (c : Dev nD) (s : Fin 8) (h : Fin 2) (f) : BI.Storable (upEmb : UEmb _ 𝕄) (slotPts (F := F) c s h f) := by
  unfold slotPts; infer_instance
instance packPts_storable (c : Dev nD) (h : Fin 2) (q) : BI.Storable (upEmb : UEmb _ 𝕄) (packPts (F := F) m ρ c h q) := by
  unfold packPts; infer_instance

/-! ## The schedule -/

/-- What `peer c k`'s signal hands `c`: both halves of the slot over there that `c` will write. -/
def barPay (c : Dev nD) (k : Fin 7) : sProp 𝕄 :=
  iprop((∃ f, slotPts (peer c k) k.rev.succ 0 f) ∗ (∃ f, slotPts (peer c k) k.rev.succ 1 f))
/-- What a landed copy hands the receiver: half `h` of slot `a + 1`, filled. -/
def recvPay (c : Dev nD) (h : Fin 2) (a : Fin 7) : sProp 𝕄 := slotPts c a.succ h (landC m ρ c)
/-- What a finished copy hands the sender back: the share of the pack. -/
def sendPay (c : Dev nD) (h : Fin 2) (k : Fin 7) : sProp 𝕄 := packPts m ρ c h (shr k)

/-- What a DMA cell's payment hands over. -/
def dmaPay (c : Dev nD) : Option (Bool × Fin 2 × Fin 7) → sProp 𝕄
  | some (true, h, a) => recvPay m ρ c h a
  | some (false, h, k) => sendPay m ρ c h k
  | none => iprop(emp)

/-- What a payment to a semaphore hands over. -/
def semPay (c : Dev nD) (k : Fin 7) : SemLoc sig → sProp 𝕄
  | .reg _ => barPay c k
  | .dma q => dmaPay m ρ c (kindOf q)

/-- Which payments a semaphore expects. -/
def semDuties : SemLoc sig → Finset (Fin 7)
  | .reg _ => Finset.univ
  | .dma q => if (kindOf q).isSome then {0} else ∅

/-- One round: the seven signals of a barrier, the one copy of a send or receive cell. -/
def sched : Rounds.Schedule (GSem nD τ sig) (Fin 7) 𝕄 where
  duties g r := if r = 0 then semDuties g.2 else ∅
  unitless _ := False
  amount g _ _ := match g.2 with | .reg _ => 1 | .dma _ => N
  payload g _ d := semPay m ρ g.1.1 d g.2
  amount_pos g _ _ _ := by
    rcases g with ⟨t, s | q⟩
    · exact Nat.one_pos
    · exact N_pos

omit [FloatOps F] in
instance barPay_storable (c : Dev nD) (k : Fin 7) : BI.Storable (upEmb : UEmb _ 𝕄) (barPay (F := F) c k) := by
  unfold barPay; infer_instance
instance dmaPay_storable (c : Dev nD) (o : Option (Bool × Fin 2 × Fin 7)) : BI.Storable (upEmb : UEmb _ 𝕄) (dmaPay (F := F) m ρ c o) := by
  rcases o with _ | ⟨_ | _, h, k⟩
  · exact (inferInstance : BI.Storable upEmb (iprop(emp) : sProp 𝕄))
  · exact packPts_storable m ρ c h (shr k)
  · exact slotPts_storable c k.succ h (landC m ρ c)
instance sched_payload_storable (g : GSem nD τ sig) (r : ℕ) (d : Fin 7) :
    BI.Storable (upEmb : UEmb _ 𝕄) ((sched (F := F) m ρ).payload g r d) := by
  rcases g with ⟨t, s | q⟩
  · exact barPay_storable t.1 d
  · exact dmaPay_storable m ρ t.1 (kindOf q)

section Sched
variable (c : Dev nD)

theorem duties_bar : (sched (F := F) m ρ).duties (barCell c) 0 = Finset.univ := rfl
theorem duties_send (h : Fin 2) (k : Fin 7) : (sched (F := F) m ρ).duties (sendCell c h k) 0 = {0} := by
  show semDuties (.dma (sendS h k)) = {0}
  unfold semDuties; simp only [kind_send]; rfl
theorem duties_recv (h : Fin 2) (a : Fin 7) : (sched (F := F) m ρ).duties (recvCell c h a) 0 = {0} := by
  show semDuties (.dma (recvS h a.succ)) = {0}
  unfold semDuties; simp only [kind_recv]; rfl
theorem duties_later (g : GSem nD τ sig) : ∀ r, 1 ≤ r → (sched (F := F) m ρ).duties g r = ∅ :=
  fun r hr => if_neg (by omega)

theorem amount_bar (d : Fin 7) : (sched (F := F) m ρ).amount (barCell c) 0 d = 1 := rfl
theorem amount_dma (q : DmaSem sig) (d : Fin 7) : (sched (F := F) m ρ).amount ((c : Thread nD τ), .dma q) 0 d = N := rfl

theorem expect_bar : (sched (F := F) m ρ).expect (barCell c) 0 = 7 := by
  unfold Schedule.expect Schedule.amountOf
  rw [duties_bar, Finset.sum_congr rfl fun d _ => amount_bar m ρ c d, Finset.sum_const, Finset.card_univ, Fintype.card_fin, smul_eq_mul]
theorem expect_send (h : Fin 2) (k : Fin 7) : (sched (F := F) m ρ).expect (sendCell c h k) 0 = N := by
  unfold Schedule.expect Schedule.amountOf; rw [duties_send, Finset.sum_singleton, amount_dma]
theorem expect_recv (h : Fin 2) (a : Fin 7) : (sched (F := F) m ρ).expect (recvCell c h a) 0 = N := by
  unfold Schedule.expect Schedule.amountOf; rw [duties_recv, Finset.sum_singleton, amount_dma]

theorem payload_bar (d : Fin 7) : (sched (F := F) m ρ).payload (barCell c) 0 d = barPay c d := rfl
theorem payload_send (h : Fin 2) (k d : Fin 7) : (sched (F := F) m ρ).payload (sendCell c h k) 0 d = sendPay m ρ c h k := by
  show dmaPay m ρ c (kindOf (sendS h k)) = _
  rw [kind_send]; rfl
theorem payload_recv (h : Fin 2) (a d : Fin 7) : (sched (F := F) m ρ).payload (recvCell c h a) 0 d = recvPay m ρ c h a := by
  show dmaPay m ρ c (kindOf (recvS h a.succ)) = _
  rw [kind_recv]; rfl

/-- The whole barrier round: all seven slots that `c` will write. -/
theorem rest_bar : bigSep ((sched (F := F) m ρ).duties (barCell c) 0 \ ∅) (fun d => (sched (F := F) m ρ).payload (barCell c) 0 d)
    = bigSep Finset.univ (fun k => barPay c k) := by
  rw [Finset.sdiff_empty, duties_bar]; rfl
theorem rest_send (h : Fin 2) (k : Fin 7) :
    bigSep ((sched (F := F) m ρ).duties (sendCell c h k) 0 \ ∅) (fun d => (sched (F := F) m ρ).payload (sendCell c h k) 0 d) = sendPay m ρ c h k := by
  rw [Finset.sdiff_empty, duties_send, bigSep_singleton, payload_send]
theorem rest_recv (h : Fin 2) (a : Fin 7) :
    bigSep ((sched (F := F) m ρ).duties (recvCell c h a) 0 \ ∅) (fun d => (sched (F := F) m ρ).payload (recvCell c h a) 0 d) = recvPay m ρ c h a := by
  rw [Finset.sdiff_empty, duties_recv, bigSep_singleton, payload_recv]

end Sched

/-! ## What each device owes at launch; the levels -/

/-- The tally of a list of payments, the first of them added last. -/
def tallies : List (GSem nD τ sig × ℕ) → CellTallies nD τ sig Unit
  | [] => 0
  | x :: l => tallies l + tallyAt x.1 () x.2

/-- The seven offsets in the order the body takes them. -/
abbrev ks : List (Fin 7) := [0, 1, 2, 3, 4, 5, 6]

/-- The copies of half `h` that device `c` owes, at the offsets `l`. -/
abbrev sendDues (c : Dev nD) (h : Fin 2) (l : List (Fin 7)) : List (GSem nD τ sig × ℕ) := l.map fun k => (recvCell (peer c k) h k.rev, N)
/-- The signals that device `c` owes. -/
abbrev sigDues (c : Dev nD) (l : List (Fin 7)) : List (GSem nD τ sig × ℕ) := l.map fun k => (barCell (peer c k), 1)
/-- Every copy that device `c` owes. -/
abbrev copyDues (c : Dev nD) : List (GSem nD τ sig × ℕ) := sendDues c 0 ks ++ sendDues c 1 ks
/-- All that device `c` owes at launch, in the order it pays. -/
abbrev dues (c : Dev nD) : List (GSem nD τ sig × ℕ) := sigDues c ks ++ copyDues c

def O₀ (c : Dev nD) : CellTallies nD τ sig Unit := tallies (dues c)

def L (g : GSem nD τ sig) : Finset Unit := if g.1.2 = .tc then {()} else ∅
/-- Barrier cells at 1, receive cells at 2, everything else (staging, send) at 0. -/
def lv (g : GSem nD τ sig) (_ : Unit) : ℕ := match g.2 with
  | .reg _ => 1
  | .dma q => if 16 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem recvS_ge (h : Fin 2) (a : Fin 7) : 16 ≤ (recvS h a.succ).val := by revert h a; decide +kernel
theorem lv_recv (c : Dev nD) (h : Fin 2) (a : Fin 7) : lv (recvCell c h a) () = 2 := if_pos (recvS_ge h a)
theorem lv_bar (c : Dev nD) : lv (barCell c) () = 1 := rfl

/-- Whatever a tally of payments counts is the cell of one of them. -/
theorem tallies_pos {l : List (GSem nD τ sig × ℕ)} {g : GSem nD τ sig} {u : Unit} (h : 0 < tallies l g u) : ∃ x ∈ l, g = x.1 := by
  induction l with
  | nil => exact absurd h (Nat.lt_irrefl 0)
  | cons x l ih =>
    unfold tallies at h
    rw [Pi.add_apply, Finsupp.add_apply, tallyAt_apply] at h
    by_cases hx : g = x.1 ∧ u = ()
    · exact ⟨x, List.mem_cons_self, hx.1⟩
    · rw [if_neg hx, Nat.add_zero] at h
      obtain ⟨y, hy, e⟩ := ih h
      exact ⟨y, List.mem_cons_of_mem _ hy, e⟩

/-- A thread may wait at level `n` while every payment it owes is to a cell of a TensorCore above `n`. -/
theorem mayWait_of (c : Dev nD) (sm : SemLoc sig) (n : ℕ) (hsm : lv ((c : Thread nD τ), sm) () ≤ n) (l : List (GSem nD τ sig × ℕ))
    (hl : ∀ x ∈ l, x.1.1.2 = .tc ∧ n < lv x.1 ()) :
    (levAts L lv : sProp 𝕄) ⊢ MayWait (c : Thread nD τ) sm () (tallies l) := by
  refine MayOwe.of_cut (L := L) (lev := lv) n (fun p hp => by rw [Finset.mem_singleton.mp hp, L_tc]; exact Finset.mem_singleton_self _)
    (fun g u hg => ?_) (fun p hp => by rw [Finset.mem_singleton.mp hp]; exact hsm) (fun g u hg => ?_)
  · obtain ⟨x, hx, rfl⟩ := tallies_pos hg
    unfold L; rw [if_pos (hl x hx).1]; exact Finset.mem_singleton_self _
  · obtain ⟨x, hx, rfl⟩ := tallies_pos hg
    exact (hl x hx).2

theorem mem_copyDues {c : Dev nD} {x : GSem nD τ sig × ℕ} (hx : x ∈ copyDues c) : x.1.1.2 = .tc ∧ 1 < lv x.1 () := by
  rcases List.mem_append.mp hx with hx | hx <;> obtain ⟨k, -, rfl⟩ := List.mem_map.mp hx <;>
    exact ⟨rfl, by dsimp only; rw [lv_recv]; decide⟩

theorem mem_dues {c : Dev nD} {x : GSem nD τ sig × ℕ} (hx : x ∈ dues c) : x.1.1.2 = .tc ∧ 0 < lv x.1 () := by
  rcases List.mem_append.mp hx with hx | hx
  · obtain ⟨k, -, rfl⟩ := List.mem_map.mp hx
    exact ⟨rfl, by dsimp only; rw [lv_bar]; decide⟩
  · exact ⟨(mem_copyDues hx).1, lt_trans Nat.zero_lt_one (mem_copyDues hx).2⟩

end Cert.Exchange

end
-- ==== Proof.Contents.lean ====
/-
# What the copies and the stores leave in the buffers

The elements under a half of a slot and under a pack, and three facts about contents: the two stores of a half leave
`sendC` there, a copied pack leaves `landC` in the slot it lands in, and a load of a filled slot reads the rows that its
owner packed.
-/
module

public import proofs.«01_k».proof.Proof.Protocol
public import Idealize.ShloMosaic.Lib.Pipeline.Value
public import Idealize.ShloMosaic.Lib.Exec.Geometry

@[expose] public section

set_option maxRecDepth 16384

noncomputable section

namespace Cert.Exchange

open Cert.KernelIdeal Cert.KernelIdeal.Gen

open Idealize.ShloMosaic
open Idealize.ShloMosaic.TcCoe
open Idealize.SL Idealize.SL.Sem

variable {F : FTy → Type} [FloatOps F]
variable (m : (ℓ : Loc nD τ sig) → Buf (Elt F) ℓ) (ρ : Dev nD → PrngReg)

/-! ## Element sets -/

theorem land_set (s : Fin 8) (h : Fin 2) : (landM s h).view.set = (landR s h).set :=
  (Memref.set_view_squeeze _ _).trans (View.set_slice_whole cc0_scratch0 (landR s h))
theorem pack_set (h : Fin 2) : (sendM h).view.set = (sendR h).set :=
  (Memref.set_view_squeeze _ _).trans (View.set_slice_whole cc0_scratch1 (sendR h))

theorem mem_landR {s : Fin 8} {h : Fin 2} {i : S8x2x512.Idx} :
    i ∈ (landR s h).set ↔ (i 0).val = s.val ∧ 256 * h.val ≤ (i 2).val ∧ (i 2).val < 256 * h.val + 256 := by
  rw [Rect.mem_set_unit]
  constructor
  · intro H
    have h0 := H 0; have h2 := H 2
    simp [S1x2x256] at h0 h2
    omega
  · rintro ⟨h0, h2⟩ a
    have h1 : (i 1).val < 2 := (i 1).isLt
    fin_cases a <;> simp [S1x2x256] <;> omega

theorem mem_sendR {h : Fin 2} {i : S2x2x256.Idx} : i ∈ (sendR h).set ↔ (i 0).val = h.val := by
  rw [Rect.mem_set_unit]
  constructor
  · intro H
    have h0 := H 0
    simp [S1x2x256] at h0
    omega
  · intro h0 a
    have h1 : (i 1).val < 2 := (i 1).isLt
    have h2 : (i 2).val < 256 := (i 2).isLt
    fin_cases a <;> simp [S1x2x256] <;> omega

theorem slot_inb (s : Fin 8) (r : Fin 2) (h : Fin 2) : ∀ a, (![s.val, r.val, 256 * h.val] : Fin 3 → ℕ) a + S1x1x256.size a ≤ S8x2x512.size a := by
  revert s r h; decide
theorem row_inb (h r : Fin 2) : ∀ a, (![h.val, r.val, 0] : Fin 3 → ℕ) a + S1x1x256.size a ≤ S2x2x256.size a := by
  revert h r; decide
theorem out_inb (r h : Fin 2) : ∀ a, (![r.val, 256 * h.val] : Fin 2 → ℕ) a + S1x256.size a ≤ S2x512.size a := by
  revert h r; decide

/-- Row `r` of half `h` of slot `s`. -/
abbrev slotR (s : Fin 8) (r h : Fin 2) : Rect S8x2x512 := Rect.unit (s := S8x2x512) ![s.val, r.val, 256 * h.val] S1x1x256.size (slot_inb s r h)
/-- Row `r` of the pack of half `h`. -/
abbrev rowR (h r : Fin 2) : Rect S2x2x256 := Rect.unit (s := S2x2x256) ![h.val, r.val, 0] S1x1x256.size (row_inb h r)
/-- Half `h` of row `r` of the result. -/
abbrev outR (r h : Fin 2) : Rect S2x512 := Rect.unit (s := S2x512) ![r.val, 256 * h.val] S1x256.size (out_inb r h)

theorem mem_rowR {h r : Fin 2} {i : S2x2x256.Idx} : i ∈ (rowR h r).set ↔ (i 0).val = h.val ∧ (i 1).val = r.val := by
  rw [Rect.mem_set_unit]
  constructor
  · intro H
    have h0 := H 0; have h1 := H 1
    simp [S1x1x256] at h0 h1
    omega
  · rintro ⟨h0, h1⟩ a
    have h2 : (i 2).val < 256 := (i 2).isLt
    fin_cases a <;> simp [S1x1x256] <;> omega

theorem mem_outR {r h : Fin 2} {i : S2x512.Idx} :
    i ∈ (outR r h).set ↔ (i 0).val = r.val ∧ 256 * h.val ≤ (i 1).val ∧ (i 1).val < 256 * h.val + 256 := by
  rw [Rect.mem_set_unit]
  constructor
  · intro H
    have h0 := H 0; have h1 := H 1
    simp [S1x256] at h0 h1
    omega
  · rintro ⟨h0, h1⟩ a
    fin_cases a <;> simp [S1x256] <;> omega

theorem row_sub (h r : Fin 2) : (bM.access (rowR h r)).setOn Finset.univ ⊆ (sendM h).view.set := by
  rw [pack_set, View.setOn_univ, View.set_slice_whole]
  exact fun i hi => mem_sendR.mpr (mem_rowR.mp hi).1
theorem row_sub_load (h r : Fin 2) : bM.view.setOn (rowR h r).toLoadRect.set ⊆ (sendM h).view.set := by
  rw [pack_set]
  intro i hi
  obtain ⟨j, hj, rfl⟩ := Finset.mem_map.mp hi
  exact mem_sendR.mpr (mem_rowR.mp hj).1
theorem slot_sub_load (s : Fin 8) (r h : Fin 2) : pM.view.setOn (slotR s r h).toLoadRect.set ⊆ (landM s h).view.set := by
  rw [land_set]
  intro i hi
  obtain ⟨j, hj, rfl⟩ := Finset.mem_map.mp hi
  rw [mem_landR]
  have H := Rect.mem_set_unit.mp hj
  have h0 := H 0; have h2 := H 2
  simp [S1x1x256] at h0 h2
  show (j 0).val = s.val ∧ 256 * h.val ≤ (j 2).val ∧ (j 2).val < 256 * h.val + 256
  omega

/-! ## The pieces cover the buffers -/

/-- The elements of half `b.2` of slot `b.1`, -/
abbrev landI (b : Fin 8 × Fin 2) : Finset S8x2x512.Idx := (landM b.1 b.2).view.set
/-- and of the pack of half `h`. -/
abbrev packI (h : Fin 2) : Finset S2x2x256.Idx := (sendM h).view.set

theorem land_disjoint (b b' : Fin 8 × Fin 2) (hb : b ≠ b') : Disjoint (landI b) (landI b') := by
  unfold landI
  rw [land_set, land_set, Finset.disjoint_left]
  intro i hi hi'
  have e := mem_landR.mp hi; have e' := mem_landR.mp hi'
  refine hb (Prod.ext (Fin.ext (by omega)) (Fin.ext (by omega)))

theorem land_cover : (Finset.univ : Finset (Fin 8 × Fin 2)).biUnion landI = Finset.univ := by
  refine Finset.eq_univ_of_forall fun i => Finset.mem_biUnion.mpr ?_
  have h2 : (i 2).val < 512 := (i 2).isLt
  let s : Fin 8 := i 0
  let h : Fin 2 := ⟨(i 2).val / 256, by omega⟩
  have e : landI (s, h) = (landR s h).set := land_set s h
  refine ⟨(s, h), Finset.mem_univ _, ?_⟩
  rw [e]
  exact mem_landR.mpr ⟨rfl, by show 256 * ((i 2).val / 256) ≤ _; omega, by show _ < 256 * ((i 2).val / 256) + 256; omega⟩

theorem pack_disjoint (h h' : Fin 2) (hh : h ≠ h') : Disjoint (packI h) (packI h') := by
  unfold packI
  rw [pack_set, pack_set, Finset.disjoint_left]
  intro i hi hi'
  exact hh (Fin.ext ((mem_sendR.mp hi).symm.trans (mem_sendR.mp hi')))

theorem pack_cover : (Finset.univ : Finset (Fin 2)).biUnion packI = Finset.univ := by
  refine Finset.eq_univ_of_forall fun i => Finset.mem_biUnion.mpr ?_
  let h : Fin 2 := i 0
  have e : packI h = (sendR h).set := pack_set h
  refine ⟨h, Finset.mem_univ _, ?_⟩
  rw [e]
  exact mem_sendR.mpr rfl

/-! ## Stores -/

/-- A store through a rectangle, read back under it, -/
theorem store_hit (b : Ref sig .tc) (r : Rect b.ty.shape) (f : b.ty.Contents (Elt F)) (w : r.shape.Idx → Elt F b.ty.elt) (x : r.shape.Idx) :
    ((Memref.whole b).access r).write (Elt F) f w Finset.univ (r.emb x) = w x :=
  (View.write_emb_of_mem (Val := Elt F) (v := (Memref.whole b).access r) f w (Finset.mem_univ x))
/-- and beside it. -/
theorem store_miss (b : Ref sig .tc) (r : Rect b.ty.shape) (f : b.ty.Contents (Elt F)) (w : r.shape.Idx → Elt F b.ty.elt)
    {i : b.ty.Idx} (hi : i ∉ r.set) : ((Memref.whole b).access r).write (Elt F) f w Finset.univ i = f i :=
  View.write_of_not_mem (Val := Elt F) (v := (Memref.whole b).access r) f w _ (by rw [View.setOn_univ]; exact fun h => hi (by rwa [View.set_slice_whole] at h))

/-- An index of a row of 256 is its column. -/
theorem col_eq (i : S1x256.Idx) : col (i 1).val = i := by
  funext a
  match a with
  | ⟨0, _⟩ => exact Fin.ext (by have : (i 0).val < 1 := (i 0).isLt; show 0 = (i 0).val; omega)
  | ⟨1, _⟩ => exact Fin.ext (Nat.mod_eq_of_lt (i 1).isLt)

theorem col_mod (j : ℕ) : col (j % 256) = col j := by
  funext a
  match a with
  | ⟨0, _⟩ => rfl
  | ⟨1, _⟩ => exact Fin.ext (Nat.mod_mod j 256)

theorem col_add (h : Fin 2) (j : ℕ) : col (256 * h.val + j) = col j := by
  rw [← col_mod (256 * h.val + j), Nat.mul_add_mod, col_mod]

/-- A row stored as a `1 × 1 × 256` block. -/
theorem cast_up (v : S1x256.Idx → F .f32) (hs : S1x256.ShapeCasts S1x1x256) (x : S1x1x256.Idx) : shapeCast S1x1x256 v hs x = v (col (x 2).val) := by
  refine (shapeCast_addUnit_apply (n := 2) ![1, 256] v hs x).trans (congrArg v ?_)
  exact (col_eq (fun a : Fin 2 => x a.succ)).symm

/-- The two stores of half `h` leave the pack there. -/
theorem pack_eq (c : Dev nD) (h : Fin 2) (f : (cc0_scratch1 : Ref sig .tc).ty.Contents (Elt F)) (wv wi : S1x1x256.Idx → F .f32)
    (hv : wv = shapeCast S1x1x256 (locV m ρ c h) shapeCasts_S1x256_S1x1x256) (hi : wi = shapeCast S1x1x256 (locI m ρ c h) shapeCasts_S1x256_S1x1x256) :
    ∀ i ∈ (sendM h).view.set, (bM.access (rowR h 1)).write (Elt F) ((bM.access (rowR h 0)).write (Elt F) f wv Finset.univ) wi Finset.univ i = sendC m ρ c i := by
  intro i hm
  rw [pack_set] at hm
  have h0 := mem_sendR.mp hm
  have e0 : i 0 = h := Fin.ext h0
  have h1 : (i 1).val < 2 := (i 1).isLt
  by_cases hr : (i 1).val = 0
  · rw [store_miss cc0_scratch1 (rowR h 1) _ _ (fun hc => by have := (mem_rowR.mp hc).2; rw [hr] at this; exact absurd this (by decide))]
    obtain ⟨x, rfl⟩ := LoadRect.exists_idx_of_mem _ (mem_rowR.mpr ⟨h0, hr⟩ : i ∈ (rowR h 0).set)
    refine (store_hit cc0_scratch1 (rowR h 0) f wv x).trans ?_
    rw [hv, cast_up]
    unfold sendC; rw [if_pos hr, e0]
    exact congrArg (fun j => locV m ρ c h (col j)) (by show (x 2).val = 0 + 1 * (x 2).val; omega)
  · obtain ⟨x, rfl⟩ := LoadRect.exists_idx_of_mem _ (mem_rowR.mpr ⟨h0, (by show (i 1).val = 1; omega)⟩ : i ∈ (rowR h 1).set)
    refine (store_hit cc0_scratch1 (rowR h 1) _ wi x).trans ?_
    rw [hi, cast_up]
    unfold sendC; rw [if_neg hr, e0]
    exact congrArg (fun j => locI m ρ c h (col j)) (by show (x 2).val = 0 + 1 * (x 2).val; omega)

/-! ## Copies -/

/-- A pack of device `c` copied into slot `s` of a device that finds `c` at distance `s`. -/
theorem land_eq (c r : Dev nD) (s : Fin 8) (h : Fin 2) (hr : rot r s = c) (f : (cc0_scratch0 : Ref sig .tc).ty.Contents (Elt F)) :
    ∀ i ∈ (landM s h).view.set, (landM s h).view.write (Elt F) f ((sendM h).view.read (Elt F) (sendC m ρ c)) Finset.univ i = landC m ρ r i := by
  intro i hm
  obtain ⟨y, rfl⟩ := View.exists_emb_of_mem_set _ hm
  refine (View.write_emb_of_mem (Val := Elt F) (v := (landM s h).view) f _ (Finset.mem_univ y)).trans ?_
  show sendC m ρ c ((sendM h).view.emb y) = landC m ρ r ((landM s h).view.emb y)
  obtain ⟨z, hz⟩ : ∃ z : S1x2x256.Idx, z = Shape.reshapeEquiv squeezes_S1x2x256_S2x256.numel_eq y := ⟨_, rfl⟩
  have e1 : (sendM h).view.emb y = (sendR h).emb z := by rw [hz]; rfl
  have e2 : (landM s h).view.emb y = (landR s h).emb z := by rw [hz]; rfl
  rw [e1, e2]
  have z0 : (z 0).val < 1 := (z 0).isLt
  have z2 : (z 2).val < 256 := (z 2).isLt
  have a0 : ((sendR h).emb z) 0 = h := Fin.ext (by show h.val + 1 * (z 0).val = h.val; omega)
  have a1 : ((sendR h).emb z 1).val = (z 1).val := by show 0 + 1 * (z 1).val = (z 1).val; omega
  have a2 : ((sendR h).emb z 2).val = (z 2).val := by show 0 + 1 * (z 2).val = (z 2).val; omega
  have b0 : ((landR s h).emb z) 0 = s := Fin.ext (by show s.val + 1 * (z 0).val = s.val; omega)
  have b1 : ((landR s h).emb z 1).val = (z 1).val := by show 0 + 1 * (z 1).val = (z 1).val; omega
  have b2 : ((landR s h).emb z 2).val = 256 * h.val + (z 2).val := by show 256 * h.val + 1 * (z 2).val = _; omega
  unfold sendC landC
  simp only [a0, a1, a2, b0, b1, b2, hr, col_add]
  have hh : (⟨(256 * h.val + (z 2).val) / 256 % 2, Nat.mod_lt _ (by decide)⟩ : Fin 2) = h := Fin.ext (by dsimp only; omega)
  rw [hh]

end Cert.Exchange

end
-- ==== Proof.Steps.lean ====
/-
# One lemma for each kind of step of the body

The body signals seven times, then per half packs and sends seven times, then receives seven times per half, and last
waits for its fourteen sends. Each kind of step has one lemma at a symbolic half and offset. What a phase holds is one
assertion over the list of offsets still to come (`sigSt`, `sendSt`, `recvSt`, `drainSt`).
-/
module

public import proofs.«01_k».proof.Proof.Contents
public import Idealize.ShloMosaic.Lib.Pipeline.BigSepL

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The cells of a device, numbered; what is known of every cell -/

set_option backward.proofsInPublic true in
/-- A device's cells: its barrier, and its thirty DMA semaphores past the two of the pipeline. -/
def semAt : Option (Fin 30) → SemLoc sig
  | none => .reg barS
  | some i => .dma ⟨2 + i.val, by have := i.isLt; show 2 + i.val < 32; omega⟩

set_option backward.proofsInPublic true in
def sendIx (h : Fin 2) (k : Fin 7) : Fin 30 := ⟨7 * h.val + k.val, by have := h.isLt; have := k.isLt; omega⟩
set_option backward.proofsInPublic true in
def recvIx (h : Fin 2) (s : Fin 8) : Fin 30 := ⟨14 + 8 * h.val + s.val, by have := h.isLt; have := s.isLt; omega⟩

theorem semAt_send (h : Fin 2) (k : Fin 7) : semAt (some (sendIx h k)) = .dma (sendS h k) := by revert h k; decide +kernel
theorem semAt_recv (h : Fin 2) (s : Fin 8) : semAt (some (recvIx h s)) = .dma (recvS h s) := by revert h s; decide +kernel

/-- A cell's invariant, under some name, and that its round 0 is open. -/
def known (g : GSem nD τ sig) : sProp 𝕄 := iprop(∃ κ : ℕ, cellInv ER (sched m ρ) κ g ∗ reached ER g 0)
instance known_persistent (g : GSem nD τ sig) : BI.Persistent (known m ρ g) := by unfold known; infer_instance

/-- That of every cell of every device. -/
def recs : sProp 𝕄 := bigSep Finset.univ fun x : Dev nD × Option (Fin 30) => known m ρ ((x.1 : Thread nD τ), semAt x.2)
instance recs_persistent : BI.Persistent (recs m ρ) := by unfold recs; infer_instance

theorem recs_at (c : Dev nD) (o : Option (Fin 30)) {sm : SemLoc sig} (h : semAt o = sm) : recs m ρ ⊢ known m ρ ((c : Thread nD τ), sm) := by
  subst h
  exact bigSep_elim (Φ := fun x : Dev nD × Option (Fin 30) => known m ρ ((x.1 : Thread nD τ), semAt x.2)) (Finset.mem_univ (c, o))

theorem recs_bar (c : Dev nD) : recs m ρ ⊢ known m ρ (barCell c) := recs_at m ρ c none rfl
theorem recs_send (c : Dev nD) (h : Fin 2) (k : Fin 7) : recs m ρ ⊢ known m ρ (sendCell c h k) := recs_at m ρ c (some (sendIx h k)) (semAt_send h k)
theorem recs_recv (c : Dev nD) (h : Fin 2) (a : Fin 7) : recs m ρ ⊢ known m ρ (recvCell c h a) := recs_at m ρ c (some (recvIx h a.succ)) (semAt_recv h a.succ)

/-- The payments device `c` still owes, whatever it has waited for. -/
def Ow (c : Dev nD) (l : List (GSem nD τ sig × ℕ)) : sProp 𝕄 := iprop(∃ W, owes (c : Thread nD τ) (tallies l) W)

/-! ## Signals -/

/-- Both halves of a slot, at whatever contents. -/
def slotAny (c : Dev nD) (s : Fin 8) : sProp 𝕄 := iprop((∃ f, slotPts c s 0 f) ∗ (∃ f, slotPts c s 1 f))
/-- What the signal at offset `k + 1` uses up: the token of the payment, and the slot handed over. -/
def sigRes (c : Dev nD) (k : Fin 7) : sProp 𝕄 := iprop(dutyTok ER (barCell (peer c k)) 0 k.rev ∗ slotAny c k.succ)

def sigSt (c : Dev nD) (l : List (Fin 7)) : sProp 𝕄 :=
  iprop(recs m ρ ∗ Ow c (sigDues c l ++ copyDues c) ∗ bigSepL l (sigRes c))

/-- The signal at offset `k + 1`. -/
theorem step_signal (c : Dev nD) (k : Fin 7) (l : List (Fin 7)) (n : Dev nD) (hn : n = peer c k) (z : ℤ) (hz : z = ((1 : ℕ) : ℤ))
    {α : Type} {Q : α → sProp 𝕄} {kk : PUnit → Prog (TpuEff nD τ sig (Elt F) Λ₀ .tc) α} :
    sigSt m ρ c (k :: l) ⊢ iprop((sigSt m ρ c l -∗ wp frame (wpE (defs₀ (F := F)) 𝒱₀ (c : Thread nD τ) none) Set.univ (kk ⟨⟩) Q)
      -∗ wp frame (wpE (defs₀ (F := F)) 𝒱₀ (c : Thread nD τ) none) Set.univ (.op (.semSignal (n : Thread nD τ) barS z) kk) Q) := by
  subst hn hz
  unfold sigSt
  rw [bigSepL_cons']
  unfold Ow sigRes
  iintro ⟨#Hrec, ⟨%W, HO⟩, ⟨Htok, Hslot⟩, Hl⟩ Hk
  ihave Hg := (recs_bar m ρ (peer c k)) $$ Hrec
  unfold known
  icases Hg with ⟨%κ, #HI, #Hr⟩
  iapply (Rounds.wp_signal 𝒱₀ ER (sched m ρ) (c : Thread nD τ) none (dst := (peer c k : Thread nD τ)) (κ := κ) (r := 0) (d := k.rev)
      (by rw [duties_bar]; exact Finset.mem_univ _) (amount_bar m ρ (peer c k) k.rev) () (tallies (sigDues c l ++ copyDues c)) rfl)
    $$ [HO Htok Hslot]
  · isplitr; · iexact HI
    isplitl [HO]; · iexact HO
    isplitl [Htok]; · iexact Htok
    isplitl [Hslot]
    · rw [payload_bar]; unfold barPay; rw [peer_rev, Fin.rev_rev]; unfold slotAny; iexact Hslot
    · iexact Hr
  iintro HO
  iapply Hk
  isplitr; · iexact Hrec
  isplitl [HO]; · iexists W; iexact HO
  iexact Hl

/-! ## The barrier -/

/-- The wait for the seven signals: the seven slots that `c` will write come with it, and the barrier cell closes. -/
theorem step_barrier (c : Dev nD) (z : ℤ) (hz : z = ((7 : ℕ) : ℤ))
    {α : Type} {Q : α → sProp 𝕄} {kk : PUnit → Prog (TpuEff nD τ sig (Elt F) Λ₀ .tc) α} :
    iprop(recs m ρ ∗ levAts L lv ∗ Ow c (copyDues c) ∗ cred (tallyAt (barCell c) () 7) ∗ atPos ER (barCell c) 0 ∅ 0)
      ⊢ iprop(((Ow c (copyDues c) ∗ semVal (barCell c) 0 ∗ bigSep Finset.univ (fun k => barPay (F := F) c k))
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS z) kk) Q) := by
  subst hz
  unfold Ow
  iintro ⟨#Hrec, #Hlev, ⟨%W, HO⟩, Hc, Hat⟩ Hk
  ihave Hg := (recs_bar m ρ c) $$ Hrec
  unfold known
  icases Hg with ⟨%κ, #HI, #Hr⟩
  iapply (Rounds.wp_wait_rest_token 𝒱₀ ER (sched m ρ) (c : Thread nD τ) none (κ := κ)
      (wpE_semWait_eq 𝒱₀ (c : Thread nD τ) none Set.univ) (Set.mem_univ _) () (O := tallies (copyDues c)) (W := W) (R := 0) (m := 0) (T := ∅)
      (by rw [expect_bar])) $$ [Hc HO Hat]
  · isplitr; · iexact HI
    isplitl [Hc]; · iexact Hc
    isplitl [HO]; · iexact HO
    isplitr; · iapply (mayWait_of c (.reg barS) 1 (le_of_eq (lv_bar c)) (copyDues c) (fun x hx => mem_copyDues hx)); iexact Hlev
    iexact Hat
  iintro ⟨HO, Hat, -, Hpay⟩
  ihave Hp := (Entails.of_eq (rest_bar m ρ c)) $$ Hpay
  imod (Rounds.cell_close ER (sched m ρ) (Set.mem_univ κ) (fun h => h) (R := 0 + 1) (duties_later m ρ (barCell c))) $$ [Hat] with Hz
  · isplitr; · iexact HI
    iexact Hat
  iapply Hk
  isplitl [HO]; · iexists _; iexact HO
  isplitl [Hz] <;> iassumption

/-! ## Sends -/

/-- What the copy at offset `k + 1` uses up: the slot it fills, a share of the pack, the tokens of its two payments;
    with them goes the position of its send cell. -/
def sendRes (c : Dev nD) (h : Fin 2) (k : Fin 7) : sProp 𝕄 :=
  iprop((∃ f, slotPts (peer c k) k.rev.succ h f) ∗ packPts m ρ c h (shr k) ∗ dutyTok ER (sendCell c h k) 0 0
    ∗ dutyTok ER (recvCell (peer c k) h k.rev) 0 0 ∗ atPos ER (sendCell c h k) 0 ∅ 0)
/-- What it leaves: the credit to wait for its end by. -/
def waitRes (c : Dev nD) (h : Fin 2) (k : Fin 7) : sProp 𝕄 :=
  iprop(cred (tallyAt (sendCell c h k) () N) ∗ atPos ER (sendCell c h k) 0 ∅ 0)

def sendSt (c : Dev nD) (h : Fin 2) (rest : List (GSem nD τ sig × ℕ)) (l d : List (Fin 7)) : sProp 𝕄 :=
  iprop(recs m ρ ∗ Ow c (sendDues c h l ++ rest) ∗ bigSepL l (sendRes m ρ c h) ∗ bigSepL d (waitRes c h))

/-- The copy of half `h` at offset `k + 1`. -/
theorem step_send (c : Dev nD) (h : Fin 2) (rest : List (GSem nD τ sig × ℕ)) (k : Fin 7) (l d : List (Fin 7)) (n : Dev nD) (hn : n = peer c k)
    {hsc : (landM k.rev.succ h : Memref sig (Dev.tc n : Thread nD τ).2.kind .vmem S2x256 .f32).view.ref.isScScratch = false}
    {hsrc : (sendM h).view.WordExact} {hdst : (landM k.rev.succ h : Memref sig (Dev.tc n : Thread nD τ).2.kind .vmem S2x256 .f32).view.WordExact}
    {hsem : DmaTarget.Typed .vmem (.dma (recvS h k.rev.succ)) (.remote (Dev.tc n : Thread nD τ) (landM k.rev.succ h) (.dma (sendS h k)) hsc)}
    {α : Type} {Q : α → sProp 𝕄} {kk : PUnit → Prog (TpuEff nD τ sig (Elt F) Λ₀ .tc) α} :
    sendSt m ρ c h rest (k :: l) d
      ⊢ iprop((sendSt m ρ c h rest l (k :: d) -∗ wp frame (wpE (defs₀ (F := F)) 𝒱₀ (c : Thread nD τ) none) Set.univ (kk ⟨⟩) Q)
        -∗ wp frame (wpE (defs₀ (F := F)) 𝒱₀ (c : Thread nD τ) none) Set.univ
          (.op (.enqueueDma (sendM h) (.remote (Dev.tc n : Thread nD τ) (landM k.rev.succ h) (.dma (sendS h k)) hsc) (.dma (recvS h k.rev.succ)) hsrc hdst hsem) kk) Q) := by
  subst hn
  unfold sendSt
  rw [bigSepL_cons', bigSepL_cons']
  unfold Ow sendRes
  iintro ⟨#Hrec, ⟨%W, HO⟩, ⟨⟨⟨%fd, Hdst⟩, Hsrc, Ht1, Ht2, Hat⟩, Hl⟩, Hd⟩ Hk
  ihave Hg1 := (recs_send m ρ c h k) $$ Hrec
  ihave Hg2 := (recs_recv m ρ (peer c k) h k.rev) $$ Hrec
  unfold known
  icases Hg1 with ⟨%κ₁, #HI1, #Hr1⟩
  icases Hg2 with ⟨%κ₂, #HI2, #Hr2⟩
  unfold slotPts packPts
  iapply (Rounds.wp_send_pointsTo 𝒱₀ ER (sched m ρ) (c : Thread nD τ) none (κ₁ := κ₁) (κ₂ := κ₂)
    (r₁ := 0) (r₂ := 0) (d₁ := 0) (d₂ := 0) (fd := fd)
    (by rw [duties_send]; exact Finset.mem_singleton_self _) (by rw [duties_recv]; exact Finset.mem_singleton_self _)
    () () N rfl (amount_dma m ρ c (sendS h k) 0) (amount_dma m ρ (peer c k) (recvS h k.rev.succ) 0)
    (tallies (sendDues c h l ++ rest)) rfl (W := W)
    (by rw [payload_send]; exact BI.Entails.refl _)
    (by rw [payload_recv]; unfold recvPay slotPts
        exact Entails.of_eq (pointsTo_congr (land_eq m ρ c (peer c k) k.rev.succ h (by rw [rot_succ, peer_rev]) fd)))) $$ [Hsrc Hdst HO Ht1 Ht2]
  · isplitr; · iexact HI1
    isplitr; · iexact HI2
    isplitl [Hsrc]; · iexact Hsrc
    isplitl [Hdst]; · iexact Hdst
    isplitl [HO]; · iexact HO
    isplitl [Ht1]; · iexact Ht1
    isplitr; · iexact Hr1
    isplitl [Ht2]; · iexact Ht2
    iexact Hr2
  iintro ⟨Hc, HO⟩
  iapply Hk
  isplitr; · iexact Hrec
  isplitl [HO]; · iexists W; iexact HO
  isplitl [Hl]; · iexact Hl
  isplitl [Hc Hat]
  · unfold waitRes; isplitl [Hc] <;> iassumption
  iexact Hd

/-! ## Receives -/

/-- What a wait for slot `a + 1` uses up, -/
def recvRes (c : Dev nD) (h : Fin 2) (a : Fin 7) : sProp 𝕄 :=
  iprop(cred (tallyAt (recvCell c h a) () N) ∗ atPos ER (recvCell c h a) 0 ∅ 0)
/-- and what it yields: half `h` of the slot, filled, and the cell closed. -/
def recvDone (c : Dev nD) (h : Fin 2) (a : Fin 7) : sProp 𝕄 :=
  iprop(slotPts c a.succ h (landC m ρ c) ∗ semVal (recvCell c h a) 0)

def recvSt (c : Dev nD) (h : Fin 2) (l d : List (Fin 7)) : sProp 𝕄 :=
  iprop(recs m ρ ∗ Ow c [] ∗ bigSepL l (recvRes c h) ∗ bigSepL d (recvDone m ρ c h))

/-- The wait for half `h` of slot `a + 1`. -/
theorem step_recv (c : Dev nD) (h : Fin 2) (a : Fin 7) (l d : List (Fin 7))
    {hsrc : (sendM h).view.WordExact} {hdst : (landM a.succ h).view.WordExact}
    {α : Type} {Q : α → sProp 𝕄} {kk : PUnit → Prog (TpuEff nD τ sig (Elt F) Λ₀ .tc) α} :
    recvSt m ρ c h (a :: l) d
      ⊢ iprop((recvSt m ρ c h l (a :: d) -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 (recvS h a.succ) (sendM h) (landM a.succ h) hsrc hdst) kk) Q) := by
  unfold recvSt
  rw [bigSepL_cons', bigSepL_cons']
  unfold Ow recvRes
  iintro ⟨#Hrec, ⟨%W, HO⟩, ⟨⟨Hc, Hat⟩, Hl⟩, Hd⟩ Hk
  ihave Hg := (recs_recv m ρ c h a) $$ Hrec
  unfold known
  icases Hg with ⟨%κ, #HI, #Hr⟩
  rw [show N = (landM a.succ h).view.dmaCredit from rfl]
  iapply (Rounds.wp_wait_rest_token 𝒱₀ ER (sched m ρ) (c : Thread nD τ) none (κ := κ)
      (wpE_waitDma2_eq 𝒱₀ (c : Thread nD τ) none Set.univ) (Set.mem_univ _) () (O := tallies []) (W := W) (R := 0) (m := 0) (T := ∅)
      (by rw [Nat.zero_add, expect_recv])) $$ [Hc HO Hat]
  · isplitr; · iexact HI
    isplitl [Hc]; · iexact Hc
    isplitl [HO]; · iexact HO
    isplitr; · unfold tallies; rw [MayWait_zero]; iempintro
    iexact Hat
  iintro ⟨HO, Hat, -, Hpay⟩
  ihave Hp := (Entails.of_eq (rest_recv m ρ c h a)) $$ Hpay
  imod (Rounds.cell_close ER (sched m ρ) (Set.mem_univ κ) (fun h => h) (R := 0 + 1) (duties_later m ρ (recvCell c h a))) $$ [Hat] with Hz
  · isplitr; · iexact HI
    iexact Hat
  iapply Hk
  isplitr; · iexact Hrec
  isplitl [HO]; · iexists _; iexact HO
  isplitl [Hl]; · iexact Hl
  isplitl [Hp Hz]
  · unfold recvDone recvPay; isplitl [Hp] <;> iassumption
  iexact Hd

/-- A row as the block it is stored and loaded as. -/
def up (v : FVec F S1x256 .f32) : FVec F S1x1x256 .f32 := shapeCast S1x1x256 v shapeCasts_S1x256_S1x1x256

/-- What a load of a row of a filled slot reads. -/
theorem got_v (c : Dev nD) (s : Fin 8) (h : Fin 2) :
    pM.view.readAt (Elt F) (slotR s 0 h).toLoadRect (landC m ρ c) = up (locV m ρ (rot c s) h) := by
  funext x
  unfold up
  refine Eq.trans ?_ (cast_up _ _ x).symm
  have x0 : (x 0).val < 1 := (x 0).isLt
  have x1 : (x 1).val < 1 := (x 1).isLt
  have x2 : (x 2).val < 256 := (x 2).isLt
  show landC m ρ c ((slotR s 0 h).toLoadRect.idx x) = _
  have b0 : ((slotR s 0 h).toLoadRect.idx x) 0 = s := Fin.ext (by show s.val + 1 * (x 0).val = s.val; omega)
  have b1 : ((slotR s 0 h).toLoadRect.idx x 1).val = 0 := by show 0 + 1 * (x 1).val = 0; omega
  have b2 : ((slotR s 0 h).toLoadRect.idx x 2).val = 256 * h.val + (x 2).val := by show 256 * h.val + 1 * (x 2).val = _; omega
  unfold landC
  simp only [b0, b1, b2, col_add, if_true]
  have hh : (⟨(256 * h.val + (x 2).val) / 256 % 2, Nat.mod_lt _ (by decide)⟩ : Fin 2) = h := Fin.ext (by dsimp only; omega)
  rw [hh]

theorem got_i (c : Dev nD) (s : Fin 8) (h : Fin 2) :
    pM.view.readAt (Elt F) (slotR s 1 h).toLoadRect (landC m ρ c) = up (locI m ρ (rot c s) h) := by
  funext x
  unfold up
  refine Eq.trans ?_ (cast_up _ _ x).symm
  have x0 : (x 0).val < 1 := (x 0).isLt
  have x1 : (x 1).val < 1 := (x 1).isLt
  have x2 : (x 2).val < 256 := (x 2).isLt
  show landC m ρ c ((slotR s 1 h).toLoadRect.idx x) = _
  have b0 : ((slotR s 1 h).toLoadRect.idx x) 0 = s := Fin.ext (by show s.val + 1 * (x 0).val = s.val; omega)
  have b1 : ((slotR s 1 h).toLoadRect.idx x 1).val ≠ 0 := by show 1 + 1 * (x 1).val ≠ 0; omega
  have b2 : ((slotR s 1 h).toLoadRect.idx x 2).val = 256 * h.val + (x 2).val := by show 256 * h.val + 1 * (x 2).val = _; omega
  unfold landC
  rw [if_neg b1]
  simp only [b0, b2, col_add]
  have hh : (⟨(256 * h.val + (x 2).val) / 256 % 2, Nat.mod_lt _ (by decide)⟩ : Fin 2) = h := Fin.ext (by dsimp only; omega)
  rw [hh]

/-- The load of the maxima out of the slot last received. -/
theorem step_load_v (c : Dev nD) (h : Fin 2) (a : Fin 7) (l d : List (Fin 7)) {hl : pM.view.LoadsAt (slotR a.succ 0 h).toLoadRect}
    {α : Type} {Q : α → sProp 𝕄} {kk : (S1x1x256.Idx → Elt F .f32) → Prog (TpuEff nD τ sig (Elt F) Λ₀ .tc) α} :
    recvSt m ρ c h l (a :: d)
      ⊢ iprop((recvSt m ρ c h l (a :: d) -∗ wp frame (wpE (defs₀ (F := F)) 𝒱₀ (c : Thread nD τ) none) Set.univ (kk (up (locV m ρ (rot c a.succ) h))) Q)
        -∗ wp frame (wpE (defs₀ (F := F)) 𝒱₀ (c : Thread nD τ) none) Set.univ (.op (.load pM (slotR a.succ 0 h).toLoadRect hl) kk) Q) := by
  unfold recvSt
  rw [bigSepL_cons']
  unfold recvDone slotPts
  iintro ⟨#Hrec, HO, Hl, ⟨Hp, Hz⟩, Hd⟩ Hk
  iapply (wp_load 𝒱₀ (c : Thread nD τ) none Set.univ (m := pM) (slot_sub_load a.succ 0 h)) $$ Hp
  iintro Hp
  rw [got_v]
  iapply Hk
  isplitr; · iexact Hrec
  isplitl [HO]; · iexact HO
  isplitl [Hl]; · iexact Hl
  isplitl [Hp Hz]
  · isplitl [Hp] <;> iassumption
  iexact Hd

/-- The load of the positions out of it. -/
theorem step_load_i (c : Dev nD) (h : Fin 2) (a : Fin 7) (l d : List (Fin 7)) {hl : pM.view.LoadsAt (slotR a.succ 1 h).toLoadRect}
    {α : Type} {Q : α → sProp 𝕄} {kk : (S1x1x256.Idx → Elt F .f32) → Prog (TpuEff nD τ sig (Elt F) Λ₀ .tc) α} :
    recvSt m ρ c h l (a :: d)
      ⊢ iprop((recvSt m ρ c h l (a :: d) -∗ wp frame (wpE (defs₀ (F := F)) 𝒱₀ (c : Thread nD τ) none) Set.univ (kk (up (locI m ρ (rot c a.succ) h))) Q)
        -∗ wp frame (wpE (defs₀ (F := F)) 𝒱₀ (c : Thread nD τ) none) Set.univ (.op (.load pM (slotR a.succ 1 h).toLoadRect hl) kk) Q) := by
  unfold recvSt
  rw [bigSepL_cons']
  unfold recvDone slotPts
  iintro ⟨#Hrec, HO, Hl, ⟨Hp, Hz⟩, Hd⟩ Hk
  iapply (wp_load 𝒱₀ (c : Thread nD τ) none Set.univ (m := pM) (slot_sub_load a.succ 1 h)) $$ Hp
  iintro Hp
  rw [got_i]
  iapply Hk
  isplitr; · iexact Hrec
  isplitl [HO]; · iexact HO
  isplitl [Hl]; · iexact Hl
  isplitl [Hp Hz]
  · isplitl [Hp] <;> iassumption
  iexact Hd

/-! ## The last waits -/

/-- What a wait for a send yields: the share of the pack, and the cell closed. -/
def sendDone (c : Dev nD) (h : Fin 2) (k : Fin 7) : sProp 𝕄 :=
  iprop(packPts m ρ c h (shr k) ∗ semVal (sendCell c h k) 0)

def drainSt (c : Dev nD) (h : Fin 2) (l d : List (Fin 7)) : sProp 𝕄 :=
  iprop(recs m ρ ∗ Ow c [] ∗ bigSepL l (waitRes c h) ∗ bigSepL d (sendDone m ρ c h))

/-- The wait for the send of half `h` at offset `k + 1`. -/
theorem step_drain (c : Dev nD) (h : Fin 2) (k : Fin 7) (l d : List (Fin 7))
    {hsrc : (landM k.rev.succ h).view.WordExact} {hdst : (sendM h).view.WordExact}
    {α : Type} {Q : α → sProp 𝕄} {kk : PUnit → Prog (TpuEff nD τ sig (Elt F) Λ₀ .tc) α} :
    drainSt m ρ c h (k :: l) d
      ⊢ iprop((drainSt m ρ c h l (k :: d) -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 (sendS h k) (landM k.rev.succ h) (sendM h) hsrc hdst) kk) Q) := by
  unfold drainSt
  rw [bigSepL_cons', bigSepL_cons']
  unfold Ow waitRes
  iintro ⟨#Hrec, ⟨%W, HO⟩, ⟨⟨Hc, Hat⟩, Hl⟩, Hd⟩ Hk
  ihave Hg := (recs_send m ρ c h k) $$ Hrec
  unfold known
  icases Hg with ⟨%κ, #HI, #Hr⟩
  rw [show N = (sendM h).view.dmaCredit from rfl]
  iapply (Rounds.wp_wait_rest_token 𝒱₀ ER (sched m ρ) (c : Thread nD τ) none (κ := κ)
      (wpE_waitDma2_eq 𝒱₀ (c : Thread nD τ) none Set.univ) (Set.mem_univ _) () (O := tallies []) (W := W) (R := 0) (m := 0) (T := ∅)
      (by rw [Nat.zero_add, expect_send])) $$ [Hc HO Hat]
  · isplitr; · iexact HI
    isplitl [Hc]; · iexact Hc
    isplitl [HO]; · iexact HO
    isplitr; · unfold tallies; rw [MayWait_zero]; iempintro
    iexact Hat
  iintro ⟨HO, Hat, -, Hpay⟩
  ihave Hp := (Entails.of_eq (rest_send m ρ c h k)) $$ Hpay
  imod (Rounds.cell_close ER (sched m ρ) (Set.mem_univ κ) (fun h => h) (R := 0 + 1) (duties_later m ρ (sendCell c h k))) $$ [Hat] with Hz
  · isplitr; · iexact HI
    iexact Hat
  iapply Hk
  isplitr; · iexact Hrec
  isplitl [HO]; · iexists _; iexact HO
  isplitl [Hl]; · iexact Hl
  isplitl [Hp Hz]
  · unfold sendDone sendPay; isplitl [Hp] <;> iassumption
  iexact Hd

end Cert.Exchange

end
-- ==== Proof.Winner.lean ====
/-
# The rows a device ends with

Each device folds the seven packs it receives into its own pair of rows, the slots in order: at a column the pack's
pair replaces the pair so far when its maximum is greater, or equal with a smaller position.
-/
module

public import proofs.«01_k».proof.Proof.Steps

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- A row of maxima and the row of their positions. -/
abbrev Rows (F : FTy → Type) : Type := FVec F S1x256 .f32 × FVec F S1x256 .f32

/-- The columns at which the second pair wins. -/
def takes (pv pi qv qi : FVec F S1x256 .f32) : IVec S1x256 1 := ori (cmpf .ogt qv pv) (andi (cmpf .oeq qv pv) (cmpf .olt qi pi))
/-- Column by column the winner's maximum, -/
def combV (pv pi qv qi : FVec F S1x256 .f32) : FVec F S1x256 .f32 := select (takes pv pi qv qi) qv pv
/-- and its position. -/
def combI (pv pi qv qi : FVec F S1x256 .f32) : FVec F S1x256 .f32 := select (takes pv pi qv qi) qi pi
/-- Column by column the winner of two pairs. -/
def comb (p q : Rows F) : Rows F := (combV p.1 p.2 q.1 q.2, combI p.1 p.2 q.1 q.2)

/-- Device `c`'s own pair of rows at half `h`. -/
def loc (c : Dev nD) (h : Fin 2) : Rows F := (locV m ρ c h, locI m ρ c h)

/-- The pair after the slots `l`. -/
def after (c : Dev nD) (h : Fin 2) (l : List (Fin 7)) : Rows F := l.foldl (fun p a => comb p (loc m ρ (rot c a.succ) h)) (loc m ρ c h)
/-- The pair after all seven slots. -/
def winner (c : Dev nD) (h : Fin 2) : Rows F := after m ρ c h ks

/-- One more slot. -/
theorem after_snoc (c : Dev nD) (h : Fin 2) (l : List (Fin 7)) (a : Fin 7) :
    after m ρ c h (l ++ [a]) = comb (after m ρ c h l) (loc m ρ (rot c a.succ) h) := by
  unfold after; rw [List.foldl_append]; rfl

/-- A row loaded as a block and cast back is the row. -/
theorem down_up (v : FVec F S1x256 .f32) : shapeCast S1x256 (up v) shapeCasts_S1x1x256_S1x256 = v :=
  shapeCast_shapeCast v shapeCasts_S1x256_S1x1x256 shapeCasts_S1x1x256_S1x256

/-! ## The payloads of the fold are `combV` and `combI` -/

theorem fold_v (c : Dev nD) (h : Fin 2) (l : List (Fin 7)) (a : Fin 7) :
    combV (after m ρ c h l).1 (after m ρ c h l).2 (locV m ρ (rot c a.succ) h) (locI m ρ (rot c a.succ) h) = (after m ρ c h (l ++ [a])).1 := by
  rw [after_snoc]; dsimp only [comb, loc]
theorem fold_i (c : Dev nD) (h : Fin 2) (l : List (Fin 7)) (a : Fin 7) :
    combI (after m ρ c h l).1 (after m ρ c h l).2 (locV m ρ (rot c a.succ) h) (locI m ρ (rot c a.succ) h) = (after m ρ c h (l ++ [a])).2 := by
  rw [after_snoc]; dsimp only [comb, loc]

theorem after_nil (c : Dev nD) (h : Fin 2) : after m ρ c h [] = (locV m ρ c h, locI m ρ c h) := by unfold after loc; rw [List.foldl_nil]
theorem own_v0 (c : Dev nD) : k0_pay2 (xhalf m ρ c 0) = (after m ρ c 0 []).1 := by rw [after_nil]; dsimp only [locV]
theorem own_i0 (c : Dev nD) : k0_pay3 (Scalar.remsi (Scalar.divsi (Dev.word c) 1#32) 8#32) (xhalf m ρ c 0) = (after m ρ c 0 []).2 := by rw [after_nil]; dsimp only [locI, word]
theorem own_v1 (c : Dev nD) : k0_pay7 (xhalf m ρ c 1) = (after m ρ c 1 []).1 := by rw [after_nil]; dsimp only [locV, k0_pay7, k0_pay6, k0_pay2, k0_pay1]
theorem own_i1 (c : Dev nD) : k0_pay8 (Scalar.remsi (Scalar.divsi (Dev.word c) 1#32) 8#32) (iota .tc S512x256 32 [0] iota_S512x256_d0_w32) (xhalf m ρ c 1)
    = (after m ρ c 1 []).2 := by
  rw [after_nil]; dsimp only [locI, word, k0_pay8, k0_pay7, k0_pay6, k0_pay3, k0_pay2, k0_pay1]

theorem after_all (c : Dev nD) (h : Fin 2) : after m ρ c h ([] ++ [0] ++ [1] ++ [2] ++ [3] ++ [4] ++ [5] ++ [6]) = winner m ρ c h := by
  unfold winner; rw [show ([] ++ [0] ++ [1] ++ [2] ++ [3] ++ [4] ++ [5] ++ [6] : List (Fin 7)) = ks from rfl]

section Payloads
variable (pv pi u v v258 v259 v269 v271 : FVec F S1x256 .f32) (v272 v275 : IVec S1x256 1) (x y z w : Vec F S1x1x256 .f32)
theorem pay14 : k0_pay14 pv pi (up u) (up v) = combV pv pi u v := by
  simp only [k0_pay14, k0_pay13, k0_pay11, k0_pay12, down_up]; rfl
theorem pay15 : k0_pay15 pv pi (up u) (up v) = combI pv pi u v := by
  simp only [k0_pay15, k0_pay13, k0_pay11, k0_pay12, down_up]; rfl
theorem pay21 : k0_pay21 (k0_pay14 pv pi x y) (k0_pay16 (up u)) (k0_pay18 pv pi x y (up u)) (k0_pay19 pv pi x y (up u) (up v)) = combV (k0_pay14 pv pi x y) (k0_pay15 pv pi x y) u v := by
  simp only [k0_pay21, k0_pay20, k0_pay18, k0_pay19, k0_pay16, k0_pay17, down_up]; rfl
theorem pay22 : k0_pay22 (k0_pay15 pv pi x y) (k0_pay17 (up v)) (k0_pay18 pv pi x y (up u)) (k0_pay19 pv pi x y (up u) (up v)) = combI (k0_pay14 pv pi x y) (k0_pay15 pv pi x y) u v := by
  simp only [k0_pay22, k0_pay20, k0_pay18, k0_pay19, k0_pay16, k0_pay17, down_up]; rfl
theorem pay26 : k0_pay26 v258 v259 v269 v271 v272 v275 (up u) (up v) = combV (k0_pay21 v258 v269 v272 v275) (k0_pay22 v259 v271 v272 v275) u v := by
  simp only [k0_pay26, k0_pay25, k0_pay23, k0_pay24, down_up]; rfl
theorem pay27 : k0_pay27 v258 v259 v269 v271 v272 v275 (up u) (up v) = combI (k0_pay21 v258 v269 v272 v275) (k0_pay22 v259 v271 v272 v275) u v := by
  simp only [k0_pay27, k0_pay25, k0_pay23, k0_pay24, down_up]; rfl
theorem pay31 : k0_pay31 pv pi (up u) (up v) = combV pv pi u v := by
  simp only [k0_pay31, k0_pay30, k0_pay28, k0_pay29, down_up]; rfl
theorem pay32 : k0_pay32 pv pi (up u) (up v) = combI pv pi u v := by
  simp only [k0_pay32, k0_pay30, k0_pay28, k0_pay29, down_up]; rfl
theorem pay36 : k0_pay36 pv pi x y (up u) (up v) = combV (k0_pay31 pv pi x y) (k0_pay32 pv pi x y) u v := by
  simp only [k0_pay36, k0_pay35, k0_pay33, k0_pay34, down_up]; rfl
theorem pay37 : k0_pay37 pv pi x y (up u) (up v) = combI (k0_pay31 pv pi x y) (k0_pay32 pv pi x y) u v := by
  simp only [k0_pay37, k0_pay35, k0_pay33, k0_pay34, down_up]; rfl
theorem pay41 : k0_pay41 pv pi (up u) (up v) = combV pv pi u v := by
  simp only [k0_pay41, k0_pay40, k0_pay38, k0_pay39, down_up]; rfl
theorem pay42 : k0_pay42 pv pi (up u) (up v) = combI pv pi u v := by
  simp only [k0_pay42, k0_pay40, k0_pay38, k0_pay39, down_up]; rfl
theorem pay46 : k0_pay46 pv pi (up u) (up v) = combV pv pi u v := by
  simp only [k0_pay46, k0_pay45, k0_pay43, k0_pay44, down_up]; rfl
theorem pay47 : k0_pay47 pv pi (up u) (up v) = combI pv pi u v := by
  simp only [k0_pay47, k0_pay45, k0_pay43, k0_pay44, down_up]; rfl
theorem pay51 : k0_pay51 pv pi (up u) (up v) = combV pv pi u v := by
  simp only [k0_pay51, k0_pay50, k0_pay48, k0_pay49, down_up]; rfl
theorem pay52 : k0_pay52 pv pi (up u) (up v) = combI pv pi u v := by
  simp only [k0_pay52, k0_pay50, k0_pay48, k0_pay49, down_up]; rfl
theorem pay56 : k0_pay56 pv pi (up u) (up v) = combV pv pi u v := by
  simp only [k0_pay56, k0_pay55, k0_pay53, k0_pay54, down_up]; rfl
theorem pay57 : k0_pay57 pv pi (up u) (up v) = combI pv pi u v := by
  simp only [k0_pay57, k0_pay55, k0_pay53, k0_pay54, down_up]; rfl
theorem pay61 : k0_pay61 pv pi (up u) (up v) = combV pv pi u v := by
  simp only [k0_pay61, k0_pay60, k0_pay58, k0_pay59, down_up]; rfl
theorem pay62 : k0_pay62 pv pi (up u) (up v) = combI pv pi u v := by
  simp only [k0_pay62, k0_pay60, k0_pay58, k0_pay59, down_up]; rfl
theorem pay66 : k0_pay66 pv pi x y (up u) (up v) = combV (k0_pay61 pv pi x y) (k0_pay62 pv pi x y) u v := by
  simp only [k0_pay66, k0_pay65, k0_pay63, k0_pay64, down_up]; rfl
theorem pay67 : k0_pay67 pv pi x y (up u) (up v) = combI (k0_pay61 pv pi x y) (k0_pay62 pv pi x y) u v := by
  simp only [k0_pay67, k0_pay65, k0_pay63, k0_pay64, down_up]; rfl
theorem pay71 : k0_pay71 pv pi (up u) (up v) = combV pv pi u v := by
  simp only [k0_pay71, k0_pay70, k0_pay68, k0_pay69, down_up]; rfl
theorem pay72 : k0_pay72 pv pi (up u) (up v) = combI pv pi u v := by
  simp only [k0_pay72, k0_pay70, k0_pay68, k0_pay69, down_up]; rfl
theorem pay76 : k0_pay76 pv pi (k0_pay73 (up u)) (up v) = combV pv pi u v := by
  simp only [k0_pay76, k0_pay75, k0_pay73, k0_pay74, down_up]; rfl
theorem pay77 : k0_pay77 pv pi (k0_pay73 (up u)) (up v) = combI pv pi u v := by
  simp only [k0_pay77, k0_pay75, k0_pay73, k0_pay74, down_up]; rfl
theorem pay81 : k0_pay81 pv pi v258 y (up u) (up v) = combV (k0_pay76 pv pi v258 y) (k0_pay77 pv pi v258 y) u v := by
  simp only [k0_pay81, k0_pay80, k0_pay78, k0_pay79, down_up]; rfl
theorem pay82 : k0_pay82 pv pi v258 y (up u) (up v) = combI (k0_pay76 pv pi v258 y) (k0_pay77 pv pi v258 y) u v := by
  simp only [k0_pay82, k0_pay80, k0_pay78, k0_pay79, down_up]; rfl
end Payloads

set_option backward.proofsInPublic true in
/-- The result on device `c`: row 0 the maxima, row 1 the positions. -/
def outC (c : Dev nD) : (cc0_stg1_0 : Ref sig .tc).ty.Contents (Elt F) := fun i =>
  if (i 0).val = 0 then (winner m ρ c ⟨(i 1).val / 256 % 2, Nat.mod_lt _ (by decide)⟩).1 (col (i 1).val)
  else (winner m ρ c ⟨(i 1).val / 256 % 2, Nat.mod_lt _ (by decide)⟩).2 (col (i 1).val)

/-- The contents of the result buffer after the four stores. -/
theorem out_eq (c : Dev nD) (f : (cc0_stg1_0 : Ref sig .tc).ty.Contents (Elt F)) :
    (oM.access (outR 1 1)).write (Elt F)
      ((oM.access (outR 0 1)).write (Elt F)
        ((oM.access (outR 1 0)).write (Elt F)
          ((oM.access (outR 0 0)).write (Elt F) f (winner m ρ c 0).1 Finset.univ)
          (winner m ρ c 0).2 Finset.univ)
        (winner m ρ c 1).1 Finset.univ)
      (winner m ρ c 1).2 Finset.univ = outC m ρ c := by
  funext i
  have h0 : (i 0).val < 2 := (i 0).isLt
  have h1 : (i 1).val < 512 := (i 1).isLt
  have miss : ∀ (r h : Fin 2), ((i 0).val ≠ r.val ∨ (i 1).val / 256 ≠ h.val) → i ∉ (outR r h).set := fun r h hne hc => by
    have := mem_outR.mp hc; have := h.isLt; omega
  have hit : ∀ (r h : Fin 2) (x : S1x256.Idx), (outR r h).emb x = i → (col (i 1).val = x) ∧ (i 0).val = r.val ∧ (i 1).val / 256 = h.val := by
    rintro r h x rfl
    have x0 : (x 0).val < 1 := (x 0).isLt
    have x1 : (x 1).val < 256 := (x 1).isLt
    have hh := h.isLt
    have e1 : ((outR r h).emb x 1).val = 256 * h.val + (x 1).val := by show 256 * h.val + 1 * (x 1).val = _; omega
    refine ⟨?_, by show r.val + 1 * (x 0).val = r.val; omega, by rw [e1]; omega⟩
    rw [e1, col_add, col_eq]
  by_cases hr : (i 0).val = 0 <;> by_cases hh : (i 1).val / 256 = 0
  · rw [store_miss cc0_stg1_0 _ _ _ (miss 1 1 (Or.inl (by rw [hr]; decide))), store_miss cc0_stg1_0 _ _ _ (miss 0 1 (Or.inr (by rw [hh]; decide))),
      store_miss cc0_stg1_0 _ _ _ (miss 1 0 (Or.inl (by rw [hr]; decide)))]
    obtain ⟨x, hx⟩ := LoadRect.exists_idx_of_mem _ (mem_outR.mpr ⟨hr, by show 256 * 0 ≤ _; omega, by show _ < 256 * 0 + 256; omega⟩ : i ∈ (outR 0 0).set)
    have e := hit 0 0 x hx
    unfold outC
    rw [if_pos hr, e.1, show (⟨(i 1).val / 256 % 2, Nat.mod_lt _ (by decide)⟩ : Fin 2) = 0 from Fin.ext (by dsimp only; rw [hh]; rfl), ← hx]
    exact store_hit cc0_stg1_0 (outR 0 0) f _ x
  · have hh1 : (i 1).val / 256 = 1 := by omega
    rw [store_miss cc0_stg1_0 _ _ _ (miss 1 1 (Or.inl (by rw [hr]; decide)))]
    obtain ⟨x, hx⟩ := LoadRect.exists_idx_of_mem _ (mem_outR.mpr ⟨hr, by show 256 * 1 ≤ _; omega, by show _ < 256 * 1 + 256; omega⟩ : i ∈ (outR 0 1).set)
    have e := hit 0 1 x hx
    unfold outC
    rw [if_pos hr, e.1, show (⟨(i 1).val / 256 % 2, Nat.mod_lt _ (by decide)⟩ : Fin 2) = 1 from Fin.ext (by dsimp only; rw [hh1]; rfl), ← hx]
    exact store_hit cc0_stg1_0 (outR 0 1) _ _ x
  · have hr1 : (i 0).val = 1 := by omega
    rw [store_miss cc0_stg1_0 _ _ _ (miss 1 1 (Or.inr (by rw [hh]; decide))), store_miss cc0_stg1_0 _ _ _ (miss 0 1 (Or.inr (by rw [hh]; decide)))]
    obtain ⟨x, hx⟩ := LoadRect.exists_idx_of_mem _ (mem_outR.mpr ⟨hr1, by show 256 * 0 ≤ _; omega, by show _ < 256 * 0 + 256; omega⟩ : i ∈ (outR 1 0).set)
    have e := hit 1 0 x hx
    unfold outC
    rw [if_neg hr, e.1, show (⟨(i 1).val / 256 % 2, Nat.mod_lt _ (by decide)⟩ : Fin 2) = 0 from Fin.ext (by dsimp only; rw [hh]; rfl), ← hx]
    exact store_hit cc0_stg1_0 (outR 1 0) _ _ x
  · have hr1 : (i 0).val = 1 := by omega
    have hh1 : (i 1).val / 256 = 1 := by omega
    obtain ⟨x, hx⟩ := LoadRect.exists_idx_of_mem _ (mem_outR.mpr ⟨hr1, by show 256 * 1 ≤ _; omega, by show _ < 256 * 1 + 256; omega⟩ : i ∈ (outR 1 1).set)
    have e := hit 1 1 x hx
    unfold outC
    rw [if_neg hr, e.1, show (⟨(i 1).val / 256 % 2, Nat.mod_lt _ (by decide)⟩ : Fin 2) = 1 from Fin.ext (by dsimp only; rw [hh1]; rfl), ← hx]
    exact store_hit cc0_stg1_0 (outR 1 1) _ _ x

/-! ## Packing a half -/

/-- The pack's buffer, half `h`, at whatever contents. -/
def halfAny (c : Dev nD) (h : Fin 2) : sProp 𝕄 :=
  iprop(∃ f, (sendM h).view.loc (c : Thread nD τ) ↦[(sendM h).view.set]{fullShare} f)

/-- The four accesses that pack a half. -/
theorem step_pack (c : Dev nD) (h : Fin 2) (wv wi : S1x1x256.Idx → F .f32) (hv : wv = up (locV m ρ c h)) (hi : wi = up (locI m ρ c h))
    {hl0 : bM.view.LoadsAt (rowR h 0).toLoadRect} {hl1 : bM.view.LoadsAt (rowR h 1).toLoadRect}
    {hx0 : (bM.access (rowR h 0)).Stores Finset.univ} {hx1 : (bM.access (rowR h 1)).Stores Finset.univ}
    {hm0 : (Finset.univ : Finset (rowR h 0).shape.Idx) = Finset.univ ∨ ∀ a, (rowR h 0).stride a = 1}
    {hm1 : (Finset.univ : Finset (rowR h 1).shape.Idx) = Finset.univ ∨ ∀ a, (rowR h 1).stride a = 1}
    {α : Type} {Q : α → sProp 𝕄} {kk : PUnit → Prog (TpuEff nD τ sig (Elt F) Λ₀ .tc) α} :
    halfAny c h ⊢ iprop((bigSep Finset.univ (fun k => packPts m ρ c h (shr k)) -∗ wp frame (wpE (defs₀ (F := F)) 𝒱₀ (c : Thread nD τ) none) Set.univ (kk ⟨⟩) Q)
      -∗ wp frame (wpE (defs₀ (F := F)) 𝒱₀ (c : Thread nD τ) none) Set.univ
          (.op (.load bM (rowR h 0).toLoadRect hl0) fun _ => .op (.store bM (rowR h 0) wv Finset.univ hx0 hm0) fun _ =>
            .op (.load bM (rowR h 1).toLoadRect hl1) fun _ => .op (.store bM (rowR h 1) wi Finset.univ hx1 hm1) kk) Q) := by
  unfold halfAny
  iintro ⟨%f, H⟩ Hk
  iapply (wp_load 𝒱₀ (c : Thread nD τ) none Set.univ (m := bM) (row_sub_load h 0)) $$ H; iintro H
  iapply (wp_store 𝒱₀ (c : Thread nD τ) none Set.univ (m := bM) (r := rowR h 0) (Mk := Finset.univ) (row_sub h 0)) $$ H; iintro H
  iapply (wp_load 𝒱₀ (c : Thread nD τ) none Set.univ (m := bM) (row_sub_load h 1)) $$ H; iintro H
  iapply (wp_store 𝒱₀ (c : Thread nD τ) none Set.univ (m := bM) (r := rowR h 1) (Mk := Finset.univ) (row_sub h 1)) $$ H; iintro H
  iapply Hk
  unfold packPts shr
  ihave H' := (Entails.of_eq (pointsTo_congr (pack_eq m ρ c h f wv wi hv hi))) $$ H
  iapply (Entails.of_eq (Transfers.pointsTo_deal (Finset.univ : Finset (Fin 7)) Finset.univ_nonempty fullShare)); iexact H'

/-! ## The block's load, the result's stores -/

/-- The load of a half of the device's block. -/
theorem step_block (c : Dev nD) (h : Fin 2) {hl : xM.view.LoadsAt (xR h).toLoadRect}
    {α : Type} {Q : α → sProp 𝕄} {kk : (S512x256.Idx → Elt F .f32) → Prog (TpuEff nD τ sig (Elt F) Λ₀ .tc) α} :
    (((c : Thread nD τ).loc cc0_stg0_0) ↦{fullShare} (xstg m ρ c))
      ⊢ iprop(((((c : Thread nD τ).loc cc0_stg0_0) ↦{fullShare} (xstg m ρ c))
            -∗ wp frame (wpE (defs₀ (F := F)) 𝒱₀ (c : Thread nD τ) none) Set.univ (kk (xhalf m ρ c h)) Q)
        -∗ wp frame (wpE (defs₀ (F := F)) 𝒱₀ (c : Thread nD τ) none) Set.univ (.op (.load xM (xR h).toLoadRect hl) kk) Q) :=
  wp_load 𝒱₀ (c : Thread nD τ) none Set.univ (m := xM) (Finset.subset_univ _)

/-- The load and the store of a row of the result. -/
theorem step_out (c : Dev nD) (r h : Fin 2) (f : (cc0_stg1_0 : Ref sig .tc).ty.Contents (Elt F)) (w' w : S1x256.Idx → F .f32) (hw : w = w')
    {hl : oM.view.LoadsAt (outR r h).toLoadRect} {hx : (oM.access (outR r h)).Stores Finset.univ}
    {hm : (Finset.univ : Finset (outR r h).shape.Idx) = Finset.univ ∨ ∀ a, (outR r h).stride a = 1}
    {α : Type} {Q : α → sProp 𝕄} {kk : PUnit → Prog (TpuEff nD τ sig (Elt F) Λ₀ .tc) α} :
    (((c : Thread nD τ).loc cc0_stg1_0) ↦{fullShare} f)
      ⊢ iprop(((((c : Thread nD τ).loc cc0_stg1_0) ↦{fullShare} ((oM.access (outR r h)).write (Elt F) f w' Finset.univ))
            -∗ wp frame (wpE (defs₀ (F := F)) 𝒱₀ (c : Thread nD τ) none) Set.univ (kk ⟨⟩) Q)
        -∗ wp frame (wpE (defs₀ (F := F)) 𝒱₀ (c : Thread nD τ) none) Set.univ
          (.op (.load oM (outR r h).toLoadRect hl) fun _ => .op (.store oM (outR r h) w Finset.univ hx hm) kk) Q) := by
  subst hw
  iintro H Hk
  iapply (wp_load 𝒱₀ (c : Thread nD τ) none Set.univ (m := oM) (Finset.subset_univ _)) $$ H; iintro H
  iapply (wp_store 𝒱₀ (c : Thread nD τ) none Set.univ (m := oM) (r := outR r h) (Mk := Finset.univ) (Finset.subset_univ _)) $$ H; iintro H
  iapply Hk; iexact H

end Cert.Exchange

end
-- ==== Proof.Ref.lean ====
/-
# The reference's run

On its one device the reference is a straight line of host operations: the arg-max of each column, the
maximum of each column, and the two rows put one under the other.
-/
module

public import proofs.«01_k».proof.Proof.Gen.ReferenceIdeal
public import Idealize.ShloMosaic.Lib.StableHlo.Run
public import Idealize.ShloMosaic.Lib.Quiescent

@[expose] public section

set_option maxRecDepth 16384

noncomputable section

namespace Cert.Exchange.Ref

open Cert.ReferenceIdeal Cert.ReferenceIdeal.Gen
open Idealize.ShloMosaic Idealize.ShloMosaic.TcCoe Idealize.ShloMosaic.StableHlo Idealize.SL.Sem

variable {F : FTy → Type} [FloatOps F]

/-- The maximum of each column. -/
def refMax (x : FVec F S4096x512 .f32) : FVec F S512 .f32 :=
  Host.reduce FloatOps.maximumf x (constant S_ .f32 0xFF800000#32) reducesTo_S4096x512_S512_d0 h_S_

/-- The first row of each column that reaches it, by the reference's arg-max. -/
def refArg (x : FVec F S4096x512 .f32) : IVec S512 32 := fun j =>
  (Host.argReduce reducer_argmax_f32_i32 x (iotaInDim S4096x512 32 0) (constant S_ .f32 0xFF800000#32) (constantI S_ 32 0#32)
    reducesTo_S4096x512_S512_d0 h_S_ j).2

/-- The reference's result: the maxima over the positions. -/
def refOut (x : FVec F S4096x512 .f32) : FVec F S2x512 .f32 :=
  concatenate S2x512 0 [⟨S1x512, broadcastInDim S1x512 ![1] bcast_S512_S1x512_1 (refMax x)⟩,
    ⟨S1x512, broadcastInDim S1x512 ![1] bcast_S512_S1x512_1 (sitofp .f32 (refArg x) : FVec F S512 .f32)⟩] concatenates_S1x512_S1x512_S2x512_d0

/-- The host operations, in order. -/
abbrev line : List (HloOp τ sig (Elt F)) :=
  [ nullary main_call0_v0 (iotaInDim S4096x512 32 0),
    nullary main_call0_cst (constant S_ .f32 0xFF800000#32),
    nullary main_call0_c (constantI S_ 32 0#32),
    quaternary main_arg0 main_call0_v0 main_call0_cst main_call0_c main_call0_v1_0 (fun x y u v j => (Host.argReduce reducer_argmax_f32_i32 x y u v reducesTo_S4096x512_S512_d0 h_S_ j).1),
    quaternary main_arg0 main_call0_v0 main_call0_cst main_call0_c main_v0 (fun x y u v j => (Host.argReduce reducer_argmax_f32_i32 x y u v reducesTo_S4096x512_S512_d0 h_S_ j).2),
    unary main_v0 main_v1 (sitofp .f32 : (⟨S512, .i32⟩ : BufTy).Contents (Elt F) → (⟨S512, .f32⟩ : BufTy).Contents (Elt F)),
    nullary main_cst (constant S_ .f32 0xFF800000#32),
    binary main_arg0 main_cst main_v2 (fun x v => Host.reduce FloatOps.maximumf x v reducesTo_S4096x512_S512_d0 h_S_),
    unary main_v2 main_v3 (broadcastInDim S1x512 ![1] bcast_S512_S1x512_1),
    unary main_v1 main_v4 (broadcastInDim S1x512 ![1] bcast_S512_S1x512_1),
    binary main_v3 main_v4 main_v5 (fun a b => concatenate S2x512 0 [⟨S1x512, a⟩, ⟨S1x512, b⟩] concatenates_S1x512_S1x512_S2x512_d0) ]

theorem main_line (c : Dev nD) : main (F := F) c = seq line := rfl

theorem line_out (V : Valuation τ sig (Elt F)) : after line V (main_v5 : DevRef τ sig) = refOut (V (main_arg0 : DevRef τ sig)) := by
  after_results
  rfl

theorem line_arg (V : Valuation τ sig (Elt F)) : after line V (main_arg0 : DevRef τ sig) = V (main_arg0 : DevRef τ sig) := by
  after_results

theorem noScopedRefs : (Finset.univ.filter fun b : Ref sig .tc => b.isScoped) = ∅ := by decide
theorem noScopedSems : (Finset.univ.filter fun sm : SemLoc sig => sm.isScoped .tc) = ∅ := by decide

theorem line_sub : (line : List (HloOp τ sig (Elt F))).Forall fun op => op.bufs ⊆ tcRefs τ sig :=
  ⟨nullary_bufs_sub .., nullary_bufs_sub .., nullary_bufs_sub .., quaternary_bufs_sub .., quaternary_bufs_sub .., unary_bufs_sub .., nullary_bufs_sub ..,
    binary_bufs_sub .., unary_bufs_sub .., unary_bufs_sub .., binary_bufs_sub ..⟩

/-- From any memory with zero counters, on any float values, the reference ends with its result in place, the argument
    unchanged and every counter at zero. -/
theorem run_ref (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v5) = refOut (m ((c.tc : Thread nD τ).loc main_arg0))
        ∧ r.2.mem ((c.tc : Thread nD τ).loc main_arg0) = m ((c.tc : Thread nD τ).loc main_arg0)) ∧ r.2.sem = fun _ => 0 :=
  (θ_run defs _ _).mono (fun r h => ⟨fun c => ⟨(h c main_v5).trans (line_out _), (h c main_arg0).trans (line_arg _)⟩, sem_eq_zero_of_no_sems (by decide) r.2⟩)
    (run_seq noScopedRefs noScopedSems defs main (fun _ => line) main_line (fun _ => line_sub) m ρ)

end Cert.Exchange.Ref

end
-- ==== Proof.Choice.lean ====
/-
# Folds that choose

The maximum of a column, the smallest position in it, the reference's arg-max and the fold over the devices all step
by an operation that returns one of its two arguments, the one that comes first in an order. Such a fold returns the
start or an element of its list, and that comes before the start and before every element.
-/
module

public import proofs.«01_k».proof.Proof.Winner
public import proofs.«01_k».proof.Proof.Ref
public import Idealize.ShloMosaic.PureOps.Ideal.Laws
public import Idealize.ShloMosaic.Lib.WordCmp
public import Idealize.ShloMosaic.Lib.Pipeline.Value

@[expose] public section

set_option maxRecDepth 16384

noncomputable section

namespace Cert.Exchange.Value

open Cert.KernelIdeal Cert.KernelIdeal.Gen
open Idealize.ShloMosaic

/-- What a fold by a choosing operation returns. -/
theorem fold_best {α : Type} (f : α → α → α) (le : α → α → Prop) (hr : ∀ a, le a a) (ht : ∀ a b c, le a b → le b c → le a c)
    (hf : ∀ a b, (f a b = a ∨ f a b = b) ∧ le (f a b) a ∧ le (f a b) b) (l : List α) (a : α) :
    (l.foldl f a = a ∨ l.foldl f a ∈ l) ∧ le (l.foldl f a) a ∧ ∀ b ∈ l, le (l.foldl f a) b := by
  induction l generalizing a with
  | nil => exact ⟨Or.inl rfl, hr a, fun b hb => absurd hb List.not_mem_nil⟩
  | cons b l ih =>
    obtain ⟨h1, h2, h3⟩ := ih (f a b)
    obtain ⟨g1, g2, g3⟩ := hf a b
    rw [List.foldl_cons]
    refine ⟨?_, ht _ _ _ h2 g2, fun d hd => ?_⟩
    · rcases h1 with h1 | h1
      · rcases g1 with g1 | g1
        · exact Or.inl (h1.trans g1)
        · exact Or.inr (List.mem_cons.mpr (Or.inl (h1.trans g1)))
      · exact Or.inr (List.mem_cons_of_mem _ h1)
    · rcases List.mem_cons.mp hd with rfl | hd
      · exact ht _ _ _ h2 g3
      · exact h3 d hd

/-- The maximum of two numbers chooses. -/
theorem max_best (a b : EReal) : (max a b = a ∨ max a b = b) ∧ a ≤ max a b ∧ b ≤ max a b :=
  ⟨(le_total b a).imp max_eq_left max_eq_right, le_max_left a b, le_max_right a b⟩

/-- The smaller of two words chooses. -/
theorem min_best (a b : BitVec 32) : (IntOp.minsi a b = a ∨ IntOp.minsi a b = b) ∧ (IntOp.minsi a b).toInt ≤ a.toInt ∧ (IntOp.minsi a b).toInt ≤ b.toInt := by
  unfold IntOp.minsi
  by_cases h : a.slt b = true
  · rw [if_pos h]; exact ⟨Or.inl rfl, le_refl _, le_of_lt (BitVec.slt_iff_toInt_lt.mp h)⟩
  · rw [if_neg h]; exact ⟨Or.inr rfl, not_lt.mp fun hc => h (BitVec.slt_iff_toInt_lt.mpr hc), le_refl _⟩

theorem bot_bits : FloatOps.ofBits (F := Ideal) .f32 0xFF800000#32 = (⊥ : EReal) := by
  show Ideal.ofBits .f32 0xFF800000#32 = ⊥
  simp [Ideal.ofBits, Ideal.ieee]

/-- A fold of maxima from minus infinity over a list with an element: an upper bound that is reached. -/
theorem fold_max {ι : Type} (x : ι → EReal) (l : List ι) (i₀ : ι) (h₀ : i₀ ∈ l) :
    (∃ i ∈ l, x i = l.foldl (fun r i => max r (x i)) ⊥) ∧ ∀ i ∈ l, x i ≤ l.foldl (fun r i => max r (x i)) ⊥ := by
  obtain ⟨h1, -, h3⟩ := fold_best (fun a b : EReal => max a b) (fun a b => b ≤ a) (fun _ => le_refl _) (fun _ _ _ h h' => le_trans h' h)
    (fun a b => max_best a b) (l.map x) ⊥
  rw [List.foldl_map] at h1 h3
  have h3' : ∀ i ∈ l, x i ≤ l.foldl (fun r i => max r (x i)) ⊥ := fun i hi => h3 _ (List.mem_map_of_mem hi)
  refine ⟨?_, h3'⟩
  rcases h1 with h1 | h1
  · exact ⟨i₀, h₀, le_antisymm (h3' i₀ h₀) (by rw [h1]; exact bot_le)⟩
  · obtain ⟨i, hi, he⟩ := List.mem_map.mp h1
    exact ⟨i, hi, he⟩

/-- The indices of a shape, in row-major order, all of them. -/
theorem mem_all {s : Shape} (i : s.Idx) : i ∈ (List.finRange s.numel).map s.rowMajor.symm :=
  List.mem_map.mpr ⟨s.rowMajor i, List.mem_finRange _, s.rowMajor.symm_apply_apply i⟩

/-! ## A device's own pair -/

/-- The index of row `r` in the column of `q`. -/
def at512 (r : Fin 512) (q : S1x256.Idx) : S512x256.Idx := fun a => match a with
  | ⟨0, _⟩ => r
  | ⟨1, _⟩ => q 1

/-- The column of `q` in a row without its unit axis. -/
def flat (q : S1x256.Idx) : S256.Idx := fun a => match a with
  | ⟨0, _⟩ => q 1

theorem flat_cast {α : Type} (v : S256.Idx → α) (q : S1x256.Idx) : shapeCast S1x256 v shapeCasts_S256_S1x256 q = v (flat q) :=
  (shapeCast_addUnit_apply (n := 1) ![256] v shapeCasts_S256_S1x256 q).trans (congrArg v (funext fun a => by fin_cases a; rfl))

theorem drop_flat (i : S512x256.Idx) (q : S1x256.Idx) : reduces_S512x256_S256.drop i = flat q ↔ i 1 = q 1 := by
  constructor
  · intro h
    have h0 := congrFun h 0
    exact Fin.ext ((reduces_S512x256_S256.drop_apply_val_of_eq i 0 1).symm.trans (congrArg Fin.val h0))
  · intro h
    funext b
    fin_cases b
    exact Fin.ext ((reduces_S512x256_S256.drop_apply_val_of_eq i 0 1).trans (congrArg Fin.val h))

/-- The rows of the column of `q`. -/
abbrev fiber (q : S1x256.Idx) : List S512x256.Idx :=
  ((List.finRange S512x256.numel).map S512x256.rowMajor.symm).filter fun i => reduces_S512x256_S256.drop i = flat q

theorem mem_fiber (i : S512x256.Idx) (q : S1x256.Idx) : i ∈ fiber q ↔ i 1 = q 1 := by
  unfold fiber
  rw [List.mem_filter, decide_eq_true_eq, drop_flat]
  exact ⟨fun h => h.2, fun h => ⟨mem_all i, h⟩⟩

variable (v : Vec Ideal S512x256 .f32) (q : S1x256.Idx)

theorem pay1_eq : k0_pay1 v = v := by
  unfold k0_pay1
  exact shapeCast_self v shapeCasts_S512x256_S512x256

theorem maxRow_fold (x : FVec Ideal S512x256 .f32) (j : S256.Idx) :
    multiReduction .maximumf [0] S256 x 0xFF800000#32 reduces_S512x256_S256 (.inl rfl) rfl j
      = (((List.finRange S512x256.numel).map S512x256.rowMajor.symm).filter fun i => reduces_S512x256_S256.drop i = j).foldl
        (fun r i => FloatOps.maximumf r (x i)) (FloatOps.ofBits .f32 0xFF800000#32) :=
  (congrFun (multiReduction_maximumf_eq_reduceFold x _ reduces_S512x256_S256 (.inl rfl) rfl) j).trans (reduceFold_eq_foldl reduces_S512x256_S256 _ _ x j)

theorem minRow_fold (x : IVec S512x256 32) (j : S256.Idx) :
    multiReductionI .minsi [0] S256 x 2147483647#32 reduces_S512x256_S256 rfl j
      = (((List.finRange S512x256.numel).map S512x256.rowMajor.symm).filter fun i => reduces_S512x256_S256.drop i = j).foldl
        (fun r i => IntOp.minsi r (x i)) 2147483647#32 :=
  (congrFun (multiReductionI_eq_reduceFold .minsi x _ reduces_S512x256_S256 rfl) j).trans (reduceFold_eq_foldl reduces_S512x256_S256 _ _ x j)

/-- The maximum of a column of a block, as a fold. -/
theorem locV_fold : (k0_pay2 v q : EReal) = (fiber q).foldl (fun r i => max r (v i : EReal)) ⊥ := by
  unfold k0_pay2
  rw [pay1_eq]
  dsimp only
  rw [flat_cast]
  refine (maxRow_fold v (flat q)).trans ?_
  rw [bot_bits]
  rfl

/-- The maximum of a column of a block is reached and bounds the column. -/
theorem locV_best : (∃ i : S512x256.Idx, i 1 = q 1 ∧ (v i : EReal) = k0_pay2 v q) ∧ ∀ i : S512x256.Idx, i 1 = q 1 → (v i : EReal) ≤ k0_pay2 v q := by
  have h := fold_max (fun i => (v i : EReal)) (fiber q) (at512 0 q) ((mem_fiber _ _).mpr rfl)
  rw [← locV_fold] at h
  obtain ⟨⟨i, hi, he⟩, h2⟩ := h
  exact ⟨⟨i, (mem_fiber _ _).mp hi, he⟩, fun i hi => h2 i ((mem_fiber _ _).mpr hi)⟩

/-- The column of an index, in a row of 256. -/
def colOf (i : S512x256.Idx) : S1x256.Idx := fun a => match a with
  | ⟨0, _⟩ => ⟨0, Nat.one_pos⟩
  | ⟨1, _⟩ => i 1

theorem colOf_eq (i : S512x256.Idx) (hi : i 1 = q 1) : colOf i = q := funext fun a => match a with
  | ⟨0, _⟩ => Fin.ext (by have : (q 0).val < 1 := (q 0).isLt; show 0 = (q 0).val; omega)
  | ⟨1, _⟩ => hi

/-- The row number at an index whose element reaches the column's maximum, 512 elsewhere. -/
def rowWord (i : S512x256.Idx) : BitVec 32 :=
  Scalar.select (Ideal.cmp .oeq (v i) (k0_pay2 v (colOf i))) (BitVec.ofNat 32 (i 0).val) 512#32

/-- The number of the first such row, as a word. -/
def firstWord : BitVec 32 := (fiber q).foldl (fun r i => IntOp.minsi r (rowWord v i)) 2147483647#32

theorem locI_fold (w : BitVec 32) : (k0_pay3 w v q : EReal) = (((firstWord v q + w * 512#32).toInt : ℝ) : EReal) := by
  unfold k0_pay3
  rw [pay1_eq]
  dsimp only
  have e : ∀ i : S512x256.Idx, select (cmpf .oeq v (broadcastTo S512x256 (k0_pay2 v) broadcasts_S1x256_S512x256))
      (iota .tc S512x256 32 [0] iota_S512x256_d0_w32) (broadcast S512x256 512#32) i = rowWord v i := fun i => by
    have hn : iota .tc S512x256 32 [0] iota_S512x256_d0_w32 i = BitVec.ofNat 32 (i 0).val :=
      congrArg (BitVec.ofNat 32) (by show 0 * 512 + (i 0).val = _; omega)
    have hb : broadcastTo S512x256 (k0_pay2 v) broadcasts_S1x256_S512x256 i = k0_pay2 v (colOf i) :=
      broadcastTo_apply _ _ _ _ fun a => by fin_cases a <;> rfl
    unfold rowWord
    rw [← hn, ← hb]
    rfl
  refine congrArg (fun z : BitVec 32 => (((z + w * 512#32).toInt : ℝ) : EReal)) ((flat_cast _ q).trans ((minRow_fold _ (flat q)).trans ?_))
  exact congrArg (fun x : IVec S512x256 32 => (fiber q).foldl (fun r i => IntOp.minsi r (x i)) 2147483647#32) (funext e)

theorem rowWord_of_eq (i : S512x256.Idx) (hi : i 1 = q 1) (he : (v i : EReal) = k0_pay2 v q) : (rowWord v i).toInt = (i 0).val := by
  unfold rowWord
  rw [colOf_eq q i hi, he]
  have h0 : (i 0).val < 512 := (i 0).isLt
  simp only [Ideal.cmp, Scalar.select, decide_true, BitVec.ofBool_true]
  exact WordCmp.toInt_ofNat_of_lt (by omega)

theorem rowWord_of_ne (i : S512x256.Idx) (hi : i 1 = q 1) (he : (v i : EReal) ≠ k0_pay2 v q) : rowWord v i = 512#32 := by
  unfold rowWord
  rw [colOf_eq q i hi]
  simp only [Ideal.cmp, Scalar.select, decide_eq_false he, BitVec.ofBool_false]
  rfl

/-- The first row of a column that reaches the maximum. -/
theorem first_best : ∃ i : S512x256.Idx, i 1 = q 1 ∧ (v i : EReal) = k0_pay2 v q ∧ (firstWord v q).toInt = (i 0).val
    ∧ ∀ i' : S512x256.Idx, i' 1 = q 1 → (v i' : EReal) = k0_pay2 v q → (i 0).val ≤ (i' 0).val := by
  obtain ⟨h1, -, h3⟩ := fold_best (fun a b : BitVec 32 => IntOp.minsi a b) (fun a b => a.toInt ≤ b.toInt) (fun _ => le_refl _)
    (fun _ _ _ h h' => le_trans h h') (fun a b => min_best a b) ((fiber q).map (rowWord v)) 2147483647#32
  rw [List.foldl_map] at h1 h3
  change (firstWord v q = _ ∨ firstWord v q ∈ _) at h1
  have h3' : ∀ i : S512x256.Idx, i 1 = q 1 → (firstWord v q).toInt ≤ (rowWord v i).toInt := fun i hi =>
    h3 _ (List.mem_map_of_mem ((mem_fiber i q).mpr hi))
  obtain ⟨⟨k, hk, hke⟩, -⟩ := locV_best v q
  have hkl : (firstWord v q).toInt ≤ (k 0).val := (rowWord_of_eq v q k hk hke) ▸ h3' k hk
  have hk5 : (k 0).val < 512 := (k 0).isLt
  have big : (2147483647#32).toInt = 2147483647 := by decide
  have b5 : (512#32).toInt = 512 := by decide
  rcases h1 with h1 | h1
  · rw [h1, big] at hkl; omega
  · obtain ⟨i, hi, he⟩ := List.mem_map.mp h1
    have hi := (mem_fiber i q).mp hi
    by_cases hv : (v i : EReal) = k0_pay2 v q
    · have hw := rowWord_of_eq v q i hi hv
      refine ⟨i, hi, hv, by rw [← he]; exact hw, fun i' hi' hv' => ?_⟩
      have := h3' i' hi'
      rw [← he, hw, rowWord_of_eq v q i' hi' hv'] at this
      exact_mod_cast this
    · rw [← he, rowWord_of_ne v q i hi hv, b5] at hkl; omega

end Cert.Exchange.Value

end
-- ==== Proof.Body.lean ====
/-
# The body, run from what a device holds at launch to what it hands back
-/
module

public import proofs.«01_k».proof.Proof.Winner
public import Idealize.ShloMosaic.Lib.Ring

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Lists and families -/

theorem list_up {Φ : Fin 7 → sProp 𝕄} : bigSep Finset.univ Φ = bigSepL ks Φ := bigSep_univ_eq_bigSepL ks (by decide) (by decide) Φ
theorem list_down {Φ : Fin 7 → sProp 𝕄} : bigSep Finset.univ Φ = bigSepL [6, 5, 4, 3, 2, 1, 0] Φ :=
  bigSep_univ_eq_bigSepL [6, 5, 4, 3, 2, 1, 0] (by decide) (by decide) Φ

/-- The two halves. -/
theorem bigSep_halves (Φ : Fin 2 → sProp 𝕄) : bigSep Finset.univ Φ = iprop(Φ 0 ∗ Φ 1) := bigSep_fin_two Φ

/-- The eight slots: one's own, and the seven others'. -/
theorem bigSep_slots (Φ : Fin 8 → sProp 𝕄) : bigSep Finset.univ Φ = iprop(Φ 0 ∗ bigSep Finset.univ fun a : Fin 7 => Φ a.succ) := by
  rw [list_up, bigSep_univ_eq_bigSepL [0, 1, 2, 3, 4, 5, 6, 7] (by decide) (by decide) Φ]; rfl

/-! ## The buffers whole and in pieces -/

/-- A scratch buffer at whatever contents. -/
def partAny (c : Dev nD) : sProp 𝕄 := iprop(∃ f : Buf (Elt F) ((c : Thread nD τ).loc cc0_scratch0), ((c : Thread nD τ).loc cc0_scratch0) ↦{fullShare} f)
def sendAny (c : Dev nD) : sProp 𝕄 := iprop(∃ f : Buf (Elt F) ((c : Thread nD τ).loc cc0_scratch1), ((c : Thread nD τ).loc cc0_scratch1) ↦{fullShare} f)

theorem slot_some (c : Dev nD) (s : Fin 8) (h : Fin 2) (f : Buf (Elt F) ((c : Thread nD τ).loc cc0_scratch0)) :
    (((c : Thread nD τ).loc cc0_scratch0) ↦[landI (s, h)]{fullShare} f : sProp 𝕄) ⊢ iprop(∃ g, slotPts c s h g) := by
  unfold slotPts
  iintro H
  iexists f; iexact H

theorem part_pieces (c : Dev nD) : (partAny c : sProp 𝕄) ⊢ iprop(slotAny c 0 ∗ bigSep Finset.univ fun a : Fin 7 => slotAny c a.succ) := by
  unfold partAny
  rw [← bigSep_slots (fun s => slotAny c s)]
  refine exists_elim fun f => (Entails.of_eq (Ring.pointsTo_blocks (ℓ := (c : Thread nD τ).loc cc0_scratch0) landI land_disjoint land_cover f)).trans ?_
  rw [bigSep_univ_prod]
  refine bigSep_mono fun s _ => ?_
  rw [bigSep_halves]
  unfold slotAny
  exact BI.sep_mono (slot_some c s 0 f) (slot_some c s 1 f)

theorem part_whole (c : Dev nD) : iprop(slotAny c 0 ∗ bigSep Finset.univ fun a : Fin 7 => slotAny c a.succ) ⊢ (partAny (F := F) c) := by
  rw [← bigSep_slots (fun s => slotAny c s)]
  refine BIBase.Entails.trans ?_ (Ring.pointsTo_blocks_join_exists (ℓ := (c : Thread nD τ).loc cc0_scratch0) landI land_disjoint land_cover (fun _ => default))
  rw [bigSep_univ_prod]
  refine bigSep_mono fun s _ => ?_
  rw [bigSep_halves]
  unfold slotAny slotPts
  exact BI.Entails.refl _

theorem send_pieces (c : Dev nD) : (sendAny c : sProp 𝕄) ⊢ iprop(halfAny c 0 ∗ halfAny c 1) := by
  unfold sendAny
  refine exists_elim fun f => (Entails.of_eq (Ring.pointsTo_blocks (ℓ := (c : Thread nD τ).loc cc0_scratch1) packI pack_disjoint pack_cover f)).trans ?_
  rw [bigSep_halves]
  unfold halfAny
  iintro ⟨H0, H1⟩
  isplitl [H0]
  · iexists f; iexact H0
  · iexists f; iexact H1

theorem send_whole (c : Dev nD) : iprop(halfAny c 0 ∗ halfAny c 1) ⊢ (sendAny (F := F) c) := by
  refine BIBase.Entails.trans ?_ (Ring.pointsTo_blocks_join_exists (ℓ := (c : Thread nD τ).loc cc0_scratch1) packI pack_disjoint pack_cover (fun _ => default))
  rw [bigSep_halves]
  unfold halfAny
  exact BI.Entails.refl _

/-- The shares of a pack together are the half. -/
theorem shares_half (c : Dev nD) (h : Fin 2) : bigSep Finset.univ (fun k => packPts m ρ c h (shr k)) ⊢ (halfAny (F := F) c h) := by
  unfold packPts shr halfAny
  iintro H
  iexists (sendC m ρ c)
  iapply (Entails.of_eq (Transfers.pointsTo_deal (Finset.univ : Finset (Fin 7)) Finset.univ_nonempty fullShare).symm); iexact H

/-! ## What a device starts with and what it ends with -/

/-- The tokens of the two payments of each copy of half `h`, and the positions of the send cells. -/
def copyToks (c : Dev nD) (h : Fin 2) : sProp 𝕄 :=
  bigSep Finset.univ fun k => iprop(dutyTok ER (sendCell c h k) 0 0 ∗ dutyTok ER (recvCell (peer c k) h k.rev) 0 0 ∗ atPos ER (sendCell c h k) 0 ∅ 0)
/-- The receive cell of one's own slot, which nobody pays. -/
abbrev spareCell (c : Dev nD) (h : Fin 2) : GSem nD τ sig := ((c : Thread nD τ), .dma (recvS h 0))

/-- Half `h`'s part of what a device starts with: for its copies, for its receives, and the unused cell. -/
def halfStart (c : Dev nD) (h : Fin 2) : sProp 𝕄 :=
  iprop(copyToks c h ∗ bigSep Finset.univ (recvRes c h) ∗ atPos ER (spareCell c h) 0 ∅ 0)

def start (c : Dev nD) : sProp 𝕄 :=
  iprop(recs m ρ ∗ levAts L lv ∗ (cred (tallyAt (barCell c) () 7) ∗ atPos ER (barCell c) 0 ∅ 0
    ∗ bigSep Finset.univ fun k => dutyTok ER (barCell (peer c k)) 0 k.rev) ∗ halfStart c 0 ∗ halfStart c 1)

/-- Half `h`'s cells, closed. -/
def halfEnd (c : Dev nD) (h : Fin 2) : sProp 𝕄 :=
  iprop((bigSep Finset.univ fun k => semVal (sendCell c h k) 0) ∗ (bigSep Finset.univ fun a => semVal (recvCell c h a) 0) ∗ semVal (spareCell c h) 0)

def Φ₀ (c : Dev nD) : sProp 𝕄 := iprop(start m ρ c ∗ partAny c ∗ sendAny c)
def Φ₁ (c : Dev nD) : sProp 𝕄 := iprop((partAny (F := F) c ∗ sendAny c) ∗ semVal (barCell c) 0 ∗ halfEnd c 0 ∗ halfEnd c 1)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outC m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem fetch_0 (t : Fin cfg0.N) : (cfg0.win (0 : Fin 2)).fetch t = true := by rw [fin_N0 t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The copies of half `h` made ready: slots from the barrier, shares of the pack, tokens and positions. -/
theorem copies_ready (c : Dev nD) (h : Fin 2) :
    iprop((bigSep Finset.univ fun k => iprop(∃ f, slotPts (F := F) (peer c k) k.rev.succ h f))
        ∗ bigSep Finset.univ (fun k => packPts m ρ c h (shr k)) ∗ copyToks c h)
      ⊢ bigSepL ks (sendRes m ρ c h) := by
  unfold copyToks
  rw [← list_up, ← bigSep_sep', ← bigSep_sep']
  exact bigSep_mono fun k _ => by unfold sendRes; exact BI.Entails.refl _

/-- The slots as the barrier hands them over, by halves. -/
theorem slots_by_half (c : Dev nD) :
    bigSep Finset.univ (fun k => barPay (F := F) c k)
      ⊢ iprop((bigSep Finset.univ fun k => iprop(∃ f, slotPts (F := F) (peer c k) k.rev.succ 0 f))
          ∗ (bigSep Finset.univ fun k => iprop(∃ f, slotPts (F := F) (peer c k) k.rev.succ 1 f))) := by
  rw [← bigSep_sep']
  exact bigSep_mono fun k _ => by unfold barPay; exact BI.Entails.refl _

end Cert.Exchange

end
-- ==== Proof.Close.lean ====
/-
# The end of the body

What the waits handed back is put together again: the two scratch buffers whole, and every cell of
the device closed at zero.
-/
module

public import proofs.«01_k».proof.Proof.Body

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem slot_both (c : Dev nD) (s : Fin 8) :
    iprop(slotPts c s 0 (landC m ρ c) ∗ slotPts c s 1 (landC m ρ c)) ⊢ (slotAny c s : sProp 𝕄) := by
  unfold slotAny
  iintro ⟨A, B⟩
  isplitl [A]
  · iexists _; iexact A
  · iexists _; iexact B

theorem slots_both (c : Dev nD) :
    bigSep Finset.univ (fun a : Fin 7 => iprop(slotPts c a.succ 0 (landC m ρ c) ∗ slotPts c a.succ 1 (landC m ρ c)))
      ⊢ (bigSep Finset.univ fun a : Fin 7 => slotAny c a.succ : sProp 𝕄) :=
  bigSep_mono fun a _ => slot_both m ρ c a.succ

/-- What the receives gave back, as the whole `part_buf` and the receive cells. -/
theorem recv_end (c : Dev nD) :
    iprop(slotAny c 0 ∗ bigSepL [6, 5, 4, 3, 2, 1, 0] (recvDone m ρ c 0) ∗ bigSepL [6, 5, 4, 3, 2, 1, 0] (recvDone m ρ c 1))
      ⊢ iprop(partAny (F := F) c ∗ (bigSep Finset.univ fun a => semVal (recvCell c 0 a) 0) ∗ (bigSep Finset.univ fun a => semVal (recvCell c 1 a) 0)) := by
  rw [← list_down, ← list_down]
  unfold recvDone
  rw [bigSep_sep', bigSep_sep']
  iintro ⟨H0, ⟨HA, HzA⟩, HB, HzB⟩
  isplitl [H0 HA HB]
  · iapply (part_whole c)
    isplitl [H0]; · iexact H0
    ihave H := (Entails.of_eq (bigSep_sep' (s := Finset.univ) (Φ := fun a : Fin 7 => slotPts c a.succ 0 (landC m ρ c))
      (Ψ := fun a : Fin 7 => slotPts c a.succ 1 (landC m ρ c))).symm) $$ [HA HB]
    · isplitl [HA] <;> iassumption
    iapply (slots_both m ρ c)
    iexact H
  isplitl [HzA] <;> iassumption

/-- What the sends gave back: half `h` of `send_buf`, and its send cells. -/
theorem send_end (c : Dev nD) (h : Fin 2) :
    bigSepL [6, 5, 4, 3, 2, 1, 0] (sendDone m ρ c h)
      ⊢ iprop(halfAny (F := F) c h ∗ bigSep Finset.univ fun k => semVal (sendCell c h k) 0) := by
  rw [← list_down]
  unfold sendDone
  rw [bigSep_sep']
  exact BI.sep_mono (shares_half m ρ c h) (BI.Entails.refl _)

theorem kind_spare (h : Fin 2) : kindOf (recvS h 0) = none := by revert h; decide +kernel

/-- The cell that nobody pays closes as it is. -/
theorem spare_end (c : Dev nD) (h : Fin 2) :
    iprop(recs m ρ ∗ atPos ER (spareCell c h) 0 ∅ 0) ⊢ iprop(|={Set.univ}=> semVal (spareCell c h) 0) := by
  iintro ⟨Hrec, Hat⟩
  ihave Hg := (recs_at m ρ c (some (recvIx h 0))) $$ Hrec
  rw [semAt_recv]
  unfold known
  icases Hg with ⟨%κ, HI, -⟩
  iapply (Rounds.cell_close ER (sched m ρ) (Set.mem_univ κ) (fun h => h) (R := 0) (fun r _ => by
    show (if r = 0 then semDuties (.dma (recvS h 0)) else ∅) = ∅
    unfold semDuties; simp only [kind_spare]; split <;> rfl))
  isplitl [HI] <;> iassumption

/-- The cells of a half, closed. -/
theorem half_end (c : Dev nD) (h : Fin 2) :
    iprop((bigSep Finset.univ fun k => semVal (sendCell c h k) 0) ∗ (bigSep Finset.univ fun a => semVal (recvCell c h a) 0) ∗ semVal (spareCell c h) 0)
      ⊢ (halfEnd c h : sProp 𝕄) := by
  unfold halfEnd; exact BI.Entails.refl _

end Cert.Exchange

end
-- ==== Proof.Run.lean ====
/-
# The run of the body
-/
module

public import proofs.«01_k».proof.Proof.Close

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ c ∗ (dats m ρ 0 c).owesAt () t0_0.succ ∗ stg c cc0_stg0_0 (xstg m ρ c) ∗ stg c cc0_stg1_0 (outC m ρ c))

set_option maxHeartbeats 4000000 in
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton]
  unfold k0_part1_skel k0_part2_skel
  simp only [semSignalWord, semWaitWord, Prog.lift, Prog.bind_op, Prog.bind_ret, Prog.pure_eq_ret, wp_deviceId]
  unfold bodyPre Φ₀ start
  iintro ⟨⟨⟨⟨#Hrec, #Hlev, ⟨HcB, HatB, HtB⟩, Hh0, Hh1⟩, Hpart, Hsend⟩, Ho, ⟨%d0, %g0, %hg0, Hx⟩, ⟨%d1, %g1, %hg1, Hout⟩⟩, Hk⟩
  have hx : g0 = xstg m ρ c := by rw [hg0]; unfold Dat.before; rw [if_pos (fetch_0 t0_0)]; rfl
  subst hx
  unfold Dat.owesAt Pipeline.owesWithin
  icases Ho with ⟨%W, %hW, HO⟩
  rw [show (dats m ρ 0 c).owed t0_0.castSucc = O₀ c from rfl]
  ihave Hs := (part_pieces c) $$ Hpart
  icases Hs with ⟨Hs0, Hs⟩
  ihave HS : sigSt m ρ c ks $$ [HO HtB Hs]
  · unfold sigSt Ow
    isplitr; · iexact Hrec
    isplitl [HO]; · iexists W; iexact HO
    rw [← list_up]
    unfold sigRes
    rw [bigSep_sep']
    isplitl [HtB] <;> iassumption
  iapply (step_signal m ρ c 0 _ _ (Fin.ext (k0_dev1_eq c)) _ (by decide)) $$ HS; iintro HS
  iapply (step_signal m ρ c 1 _ _ (Fin.ext (k0_dev2_eq c)) _ (by decide)) $$ HS; iintro HS
  iapply (step_signal m ρ c 2 _ _ (Fin.ext (k0_dev3_eq c)) _ (by decide)) $$ HS; iintro HS
  iapply (step_signal m ρ c 3 _ _ (Fin.ext (k0_dev4_eq c)) _ (by decide)) $$ HS; iintro HS
  iapply (step_signal m ρ c 4 _ _ (Fin.ext (k0_dev5_eq c)) _ (by decide)) $$ HS; iintro HS
  iapply (step_signal m ρ c 5 _ _ (Fin.ext (k0_dev6_eq c)) _ (by decide)) $$ HS; iintro HS
  iapply (step_signal m ρ c 6 _ _ (Fin.ext (k0_dev7_eq c)) _ (by decide)) $$ HS; iintro HS
  unfold sigSt
  icases HS with ⟨-, HO, -⟩
  iapply (step_block m ρ c 0) $$ Hx; iintro Hx
  ihave Hp := (send_pieces c) $$ Hsend
  icases Hp with ⟨Hp0, Hp1⟩
  iapply (step_pack m ρ c 0 _ _ rfl rfl) $$ Hp0; iintro Hp0
  iapply (step_barrier m ρ c _ (by decide)) $$ [HO HcB HatB]
  · isplitr; · iexact Hrec
    isplitr; · iexact Hlev
    isplitl [HO]; · iexact HO
    isplitl [HcB] <;> iassumption
  iintro ⟨HO, HzB, Hbar⟩
  ihave Hbar := (slots_by_half c) $$ Hbar
  icases Hbar with ⟨Hb0, Hb1⟩
  unfold halfStart
  icases Hh0 with ⟨Ht0, Hr0, Hsp0⟩
  icases Hh1 with ⟨Ht1, Hr1, Hsp1⟩
  ihave HS : sendSt m ρ c 0 (sendDues c 1 ks) ks [] $$ [HO Hb0 Hp0 Ht0]
  · unfold sendSt
    isplitr; · iexact Hrec
    isplitl [HO]; · iexact HO
    isplitl [Hb0 Hp0 Ht0]
    · iapply (copies_ready m ρ c 0)
      isplitl [Hb0]; · iexact Hb0
      isplitl [Hp0] <;> iassumption
    rw [bigSepL_nil]; iempintro
  simp only [k0_part3_eq_skeleton, k0_part4_eq_skeleton, k0_part5_eq_skeleton, k0_part6_eq_skeleton]
  unfold k0_part3_skel k0_part4_skel k0_part5_skel k0_part6_skel
  simp only [semSignalWord, semWaitWord, Prog.lift, Prog.bind_op, Prog.bind_ret, Prog.pure_eq_ret]
  iapply (step_send m ρ c 0 _ 0 _ _ _ (Fin.ext (k0_dev8_eq c))) $$ HS; iintro HS
  iapply (step_send m ρ c 0 _ 1 _ _ _ (Fin.ext (k0_dev9_eq c))) $$ HS; iintro HS
  iapply (step_send m ρ c 0 _ 2 _ _ _ (Fin.ext (k0_dev10_eq c))) $$ HS; iintro HS
  iapply (step_send m ρ c 0 _ 3 _ _ _ (Fin.ext (k0_dev11_eq c))) $$ HS; iintro HS
  iapply (step_send m ρ c 0 _ 4 _ _ _ (Fin.ext (k0_dev12_eq c))) $$ HS; iintro HS
  iapply (step_send m ρ c 0 _ 5 _ _ _ (Fin.ext (k0_dev13_eq c))) $$ HS; iintro HS
  iapply (step_send m ρ c 0 _ 6 _ _ _ (Fin.ext (k0_dev14_eq c))) $$ HS; iintro HS
  unfold sendSt
  icases HS with ⟨-, HO, -, Hw0⟩
  iapply (step_block m ρ c 1) $$ Hx; iintro Hx
  iapply (step_pack m ρ c 1 _ _ rfl rfl) $$ Hp1; iintro Hp1
  ihave HS : sendSt m ρ c 1 [] ks [] $$ [HO Hb1 Hp1 Ht1]
  · unfold sendSt
    isplitr; · iexact Hrec
    isplitl [HO]; · iexact HO
    isplitl [Hb1 Hp1 Ht1]
    · iapply (copies_ready m ρ c 1)
      isplitl [Hb1]; · iexact Hb1
      isplitl [Hp1] <;> iassumption
    rw [bigSepL_nil]; iempintro
  simp only [k0_part7_eq_skeleton, k0_part8_eq_skeleton, k0_part9_eq_skeleton]
  unfold k0_part7_skel k0_part8_skel k0_part9_skel
  simp only [semSignalWord, semWaitWord, Prog.lift, Prog.bind_op, Prog.bind_ret, Prog.pure_eq_ret]
  iapply (step_send m ρ c 1 _ 0 _ _ _ (Fin.ext (k0_dev15_eq c))) $$ HS; iintro HS
  iapply (step_send m ρ c 1 _ 1 _ _ _ (Fin.ext (k0_dev16_eq c))) $$ HS; iintro HS
  iapply (step_send m ρ c 1 _ 2 _ _ _ (Fin.ext (k0_dev17_eq c))) $$ HS; iintro HS
  iapply (step_send m ρ c 1 _ 3 _ _ _ (Fin.ext (k0_dev18_eq c))) $$ HS; iintro HS
  iapply (step_send m ρ c 1 _ 4 _ _ _ (Fin.ext (k0_dev19_eq c))) $$ HS; iintro HS
  iapply (step_send m ρ c 1 _ 5 _ _ _ (Fin.ext (k0_dev20_eq c))) $$ HS; iintro HS
  iapply (step_send m ρ c 1 _ 6 _ _ _ (Fin.ext (k0_dev21_eq c))) $$ HS; iintro HS
  unfold sendSt
  icases HS with ⟨-, HO, -, Hw1⟩
  ihave HS : recvSt m ρ c 0 ks [] $$ [HO Hr0]
  · unfold recvSt
    isplitr; · iexact Hrec
    isplitl [HO]; · iexact HO
    isplitl [Hr0]; · rw [← list_up]; iexact Hr0
    rw [bigSepL_nil]; iempintro
  simp only [k0_part10_eq_skeleton, k0_part11_eq_skeleton, k0_part12_eq_skeleton, k0_part13_eq_skeleton, k0_part14_eq_skeleton]
  unfold k0_part10_skel k0_part11_skel k0_part12_skel k0_part13_skel k0_part14_skel
  simp only [semSignalWord, semWaitWord, Prog.lift, Prog.bind_op, Prog.bind_ret, Prog.pure_eq_ret]
  iapply (step_recv m ρ c 0 0 _ _) $$ HS; iintro HS
  iapply (step_load_v m ρ c 0 0 _ _) $$ HS; iintro HS
  iapply (step_load_i m ρ c 0 0 _ _) $$ HS; iintro HS
  iapply (step_recv m ρ c 0 1 _ _) $$ HS; iintro HS
  iapply (step_load_v m ρ c 0 1 _ _) $$ HS; iintro HS
  iapply (step_load_i m ρ c 0 1 _ _) $$ HS; iintro HS
  iapply (step_recv m ρ c 0 2 _ _) $$ HS; iintro HS
  iapply (step_load_v m ρ c 0 2 _ _) $$ HS; iintro HS
  iapply (step_load_i m ρ c 0 2 _ _) $$ HS; iintro HS
  iapply (step_recv m ρ c 0 3 _ _) $$ HS; iintro HS
  iapply (step_load_v m ρ c 0 3 _ _) $$ HS; iintro HS
  iapply (step_load_i m ρ c 0 3 _ _) $$ HS; iintro HS
  iapply (step_recv m ρ c 0 4 _ _) $$ HS; iintro HS
  iapply (step_load_v m ρ c 0 4 _ _) $$ HS; iintro HS
  iapply (step_load_i m ρ c 0 4 _ _) $$ HS; iintro HS
  iapply (step_recv m ρ c 0 5 _ _) $$ HS; iintro HS
  iapply (step_load_v m ρ c 0 5 _ _) $$ HS; iintro HS
  iapply (step_load_i m ρ c 0 5 _ _) $$ HS; iintro HS
  iapply (step_recv m ρ c 0 6 _ _) $$ HS; iintro HS
  iapply (step_load_v m ρ c 0 6 _ _) $$ HS; iintro HS
  iapply (step_load_i m ρ c 0 6 _ _) $$ HS; iintro HS
  iapply (step_out c 0 0 _ (winner m ρ c 0).1 _ (by simp only [own_v0, own_i0, ↓pay14, ↓pay15, ↓pay21, ↓pay22, ↓pay26, ↓pay27, ↓pay31, ↓pay32, ↓pay36, ↓pay37, ↓pay41, ↓pay42, ↓pay46, ↓pay47, fold_v, fold_i, after_all])) $$ Hout; iintro Hout
  iapply (step_out c 1 0 _ (winner m ρ c 0).2 _ (by simp only [own_v0, own_i0, ↓pay14, ↓pay15, ↓pay21, ↓pay22, ↓pay26, ↓pay27, ↓pay31, ↓pay32, ↓pay36, ↓pay37, ↓pay41, ↓pay42, ↓pay46, ↓pay47, fold_v, fold_i, after_all])) $$ Hout; iintro Hout
  unfold recvSt
  icases HS with ⟨-, HO, -, Hd0⟩
  ihave HS : recvSt m ρ c 1 ks [] $$ [HO Hr1]
  · unfold recvSt
    isplitr; · iexact Hrec
    isplitl [HO]; · iexact HO
    isplitl [Hr1]; · rw [← list_up]; iexact Hr1
    rw [bigSepL_nil]; iempintro
  simp only [k0_part15_eq_skeleton, k0_part16_eq_skeleton, k0_part17_eq_skeleton, k0_part18_eq_skeleton]
  unfold k0_part15_skel k0_part16_skel k0_part17_skel k0_part18_skel
  simp only [semSignalWord, semWaitWord, Prog.lift, Prog.bind_op, Prog.bind_ret, Prog.pure_eq_ret]
  iapply (step_recv m ρ c 1 0 _ _) $$ HS; iintro HS
  iapply (step_load_v m ρ c 1 0 _ _) $$ HS; iintro HS
  iapply (step_load_i m ρ c 1 0 _ _) $$ HS; iintro HS
  iapply (step_recv m ρ c 1 1 _ _) $$ HS; iintro HS
  iapply (step_load_v m ρ c 1 1 _ _) $$ HS; iintro HS
  iapply (step_load_i m ρ c 1 1 _ _) $$ HS; iintro HS
  iapply (step_recv m ρ c 1 2 _ _) $$ HS; iintro HS
  iapply (step_load_v m ρ c 1 2 _ _) $$ HS; iintro HS
  iapply (step_load_i m ρ c 1 2 _ _) $$ HS; iintro HS
  iapply (step_recv m ρ c 1 3 _ _) $$ HS; iintro HS
  iapply (step_load_v m ρ c 1 3 _ _) $$ HS; iintro HS
  iapply (step_load_i m ρ c 1 3 _ _) $$ HS; iintro HS
  iapply (step_recv m ρ c 1 4 _ _) $$ HS; iintro HS
  iapply (step_load_v m ρ c 1 4 _ _) $$ HS; iintro HS
  iapply (step_load_i m ρ c 1 4 _ _) $$ HS; iintro HS
  iapply (step_recv m ρ c 1 5 _ _) $$ HS; iintro HS
  iapply (step_load_v m ρ c 1 5 _ _) $$ HS; iintro HS
  iapply (step_load_i m ρ c 1 5 _ _) $$ HS; iintro HS
  iapply (step_recv m ρ c 1 6 _ _) $$ HS; iintro HS
  iapply (step_load_v m ρ c 1 6 _ _) $$ HS; iintro HS
  iapply (step_load_i m ρ c 1 6 _ _) $$ HS; iintro HS
  iapply (step_out c 0 1 _ (winner m ρ c 1).1 _ (by
    generalize hv : k0_pay8 _ _ (xhalf m ρ c 1) = v
    obtain rfl : v = (after m ρ c 1 []).2 := hv.symm.trans (own_i1 m ρ c)
    simp only [own_v1, ↓pay51, ↓pay52, ↓pay56, ↓pay57, ↓pay61, ↓pay62, ↓pay66, ↓pay67, ↓pay71, ↓pay72, ↓pay76, ↓pay77, ↓pay81, ↓pay82, fold_v, fold_i, after_all])) $$ Hout; iintro Hout
  iapply (step_out c 1 1 _ (winner m ρ c 1).2 _ (by
    generalize hv : k0_pay8 _ _ (xhalf m ρ c 1) = v
    obtain rfl : v = (after m ρ c 1 []).2 := hv.symm.trans (own_i1 m ρ c)
    simp only [own_v1, ↓pay51, ↓pay52, ↓pay56, ↓pay57, ↓pay61, ↓pay62, ↓pay66, ↓pay67, ↓pay71, ↓pay72, ↓pay76, ↓pay77, ↓pay81, ↓pay82, fold_v, fold_i, after_all])) $$ Hout; iintro Hout
  unfold recvSt
  icases HS with ⟨-, HO, -, Hd1⟩
  simp only [k0_part19_eq_skeleton, k0_part20_eq_skeleton, k0_part21_eq_skeleton, k0_part22_eq_skeleton]
  unfold k0_part19_skel k0_part20_skel k0_part21_skel k0_part22_skel
  simp only [semSignalWord, semWaitWord, Prog.lift, Prog.bind_op, Prog.bind_ret, Prog.pure_eq_ret]
  ihave HS : drainSt m ρ c 0 ks [] $$ [HO Hw0]
  · unfold drainSt
    isplitr; · iexact Hrec
    isplitl [HO]; · iexact HO
    isplitl [Hw0]; · rw [← list_up, list_down]; iexact Hw0
    rw [bigSepL_nil]; iempintro
  iapply (step_drain m ρ c 0 0 _ _) $$ HS; iintro HS
  iapply (step_drain m ρ c 0 1 _ _) $$ HS; iintro HS
  iapply (step_drain m ρ c 0 2 _ _) $$ HS; iintro HS
  iapply (step_drain m ρ c 0 3 _ _) $$ HS; iintro HS
  iapply (step_drain m ρ c 0 4 _ _) $$ HS; iintro HS
  iapply (step_drain m ρ c 0 5 _ _) $$ HS; iintro HS
  iapply (step_drain m ρ c 0 6 _ _) $$ HS; iintro HS
  unfold drainSt
  icases HS with ⟨-, HO, -, He0⟩
  ihave HS : drainSt m ρ c 1 ks [] $$ [HO Hw1]
  · unfold drainSt
    isplitr; · iexact Hrec
    isplitl [HO]; · iexact HO
    isplitl [Hw1]; · rw [← list_up, list_down]; iexact Hw1
    rw [bigSepL_nil]; iempintro
  iapply (step_drain m ρ c 1 0 _ _) $$ HS; iintro HS
  iapply (step_drain m ρ c 1 1 _ _) $$ HS; iintro HS
  iapply (step_drain m ρ c 1 2 _ _) $$ HS; iintro HS
  iapply (step_drain m ρ c 1 3 _ _) $$ HS; iintro HS
  iapply (step_drain m ρ c 1 4 _ _) $$ HS; iintro HS
  iapply (step_drain m ρ c 1 5 _ _) $$ HS; iintro HS
  iapply (step_drain m ρ c 1 6 _ _) $$ HS; iintro HS
  unfold drainSt
  icases HS with ⟨-, HO, -, He1⟩
  rw [out_eq, wp_ret]
  imod (spare_end m ρ c 0) $$ [Hsp0] with Hz0
  · isplitr; · iexact Hrec
    iexact Hsp0
  imod (spare_end m ρ c 1) $$ [Hsp1] with Hz1
  · isplitr; · iexact Hrec
    iexact Hsp1
  imodintro
  iapply Hk
  ihave HA := (recv_end m ρ c) $$ [Hs0 Hd0 Hd1]
  · isplitl [Hs0]; · iexact Hs0
    isplitl [Hd0] <;> iassumption
  icases HA with ⟨Hpart, HzR0, HzR1⟩
  ihave HB0 := (send_end m ρ c 0) $$ He0
  icases HB0 with ⟨Hf0, HzS0⟩
  ihave HB1 := (send_end m ρ c 1) $$ He1
  icases HB1 with ⟨Hf1, HzS1⟩
  unfold bodyPost Φ₁ Dat.owesAt Pipeline.owesWithin Ow
  rw [show (dats m ρ 0 c).owed t0_0.succ = 0 from rfl]
  isplitl [Hpart Hf0 Hf1 HzB HzS0 HzR0 Hz0 HzS1 HzR1 Hz1]
  · isplitl [Hpart Hf0 Hf1]
    · isplitl [Hpart]; · iexact Hpart
      iapply (send_whole c); isplitl [Hf0] <;> iassumption
    isplitl [HzB]; · iexact HzB
    isplitl [HzS0 HzR0 Hz0]
    · iapply (half_end c 0)
      isplitl [HzS0]; · iexact HzS0
      isplitl [HzR0] <;> iassumption
    · iapply (half_end c 1)
      isplitl [HzS1]; · iexact HzS1
      isplitl [HzR1] <;> iassumption
  isplitl [HO]
  · icases HO with ⟨%W', HO⟩
    iexists W'
    isplitr; · ipureintro; exact fun _ _ => Or.inl trivial
    iexact HO
  isplitl [Hx]
  · iexists _; isplitr; · ipureintro; rfl
    iexact Hx
  iexists _; isplitr; · ipureintro; rfl
  iexact Hout

end Cert.Exchange

end
-- ==== Proof.Launch.lean ====
/-
# The launch

Each device's 31 cells (the barrier, fourteen send cells, sixteen receive cells) are set up together,
their records are shared by all devices, the tokens of the payments go around to the devices that pay,
and the launch credits are counted cell by cell.
-/
module

public import proofs.«01_k».proof.Proof.Close

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells -/

theorem semAt_injective : Function.Injective semAt := by
  intro a b; revert a b; decide +kernel

/-- Cell `x.2` of device `x.1`. -/
abbrev cellAt (x : Dev nD × Option (Fin 30)) : GSem nD τ sig := ((x.1 : Thread nD τ), semAt x.2)
theorem cellAt_none (c : Dev nD) : cellAt (c, none) = barCell c := rfl
theorem cellAt_injective : Function.Injective cellAt := by
  rintro ⟨c, o⟩ ⟨c', o'⟩ h
  have h1 : c = c' := congrArg (fun g : GSem nD τ sig => g.1.1) h
  have h2 : o = o' := semAt_injective (congrArg Prod.snd h)
  rw [h1, h2]
def allCells : Finset (GSem nD τ sig) := Finset.univ.map ⟨cellAt, cellAt_injective⟩

/-- A family over the cells of half `h`: the send cells, the unused cell, the receive cells. -/
def kindHalf (Φ : Option (Fin 30) → sProp 𝕄) (h : Fin 2) : sProp 𝕄 :=
  iprop((bigSep Finset.univ fun k : Fin 7 => Φ (some (sendIx h k))) ∗ Φ (some (recvIx h 0)) ∗ (bigSep Finset.univ fun a : Fin 7 => Φ (some (recvIx h a.succ))))

/-- A family over a device's cells, by kind. -/
theorem by_kind (Φ : Option (Fin 30) → sProp 𝕄) : bigSep Finset.univ Φ = iprop(Φ none ∗ kindHalf Φ 0 ∗ kindHalf Φ 1) := by
  rw [bigSep_univ_eq_bigSepL ([none] ++ ((ks.map (fun k => some (sendIx 0 k)) ++ ([some (recvIx 0 0)] ++ ks.map (fun a => some (recvIx 0 a.succ))))
      ++ (ks.map (fun k => some (sendIx 1 k)) ++ ([some (recvIx 1 0)] ++ ks.map (fun a => some (recvIx 1 a.succ)))))) (by decide +kernel) (by decide +kernel) Φ]
  unfold kindHalf
  rw [bigSepL_append, bigSepL_append, bigSepL_append, bigSepL_append, bigSepL_append, bigSepL_append, bigSepL_map, bigSepL_map, bigSepL_map, bigSepL_map,
    bigSepL_singleton, bigSepL_singleton, bigSepL_singleton, list_up, list_up, list_up, list_up]

/-! ## The tokens -/

abbrev Tok : Type := Fin 7 ⊕ (Fin 2 × (Fin 7 ⊕ Fin 7))
/-- A device's own tokens: its barrier's seven, one of each send cell, one of each receive cell. -/
def tokSem : Tok → SemLoc sig × Fin 7
  | .inl k => (.reg barS, k)
  | .inr (h, .inl k) => (.dma (sendS h k), 0)
  | .inr (h, .inr a) => (.dma (recvS h a.succ), 0)
theorem tokSem_injective : Function.Injective tokSem := by
  intro a b; revert a b; decide +kernel
def tokAt (x : Dev nD × Tok) : GSem nD τ sig × ℕ × Fin 7 := (((x.1 : Thread nD τ), (tokSem x.2).1), 0, (tokSem x.2).2)
theorem tokAt_injective : Function.Injective tokAt := by
  rintro ⟨c, j⟩ ⟨c', j'⟩ h
  have h1 : c = c' := congrArg (fun x : GSem nD τ sig × ℕ × Fin 7 => x.1.1.1) h
  have h2 : j = j' := tokSem_injective (congrArg (fun x : GSem nD τ sig × ℕ × Fin 7 => (x.1.2, x.2.2)) h)
  rw [h1, h2]
def allToks : Finset (GSem nD τ sig × ℕ × Fin 7) := Finset.univ.map ⟨tokAt, tokAt_injective⟩

def u₀ : UU := (initOf (Pipeline.cells cfgs cellOf_inj) (Pipeline.launchToks cfgs cellOf_inj), initOf allCells allToks)

def tokHalf (c : Dev nD) (h : Fin 2) : sProp 𝕄 :=
  iprop((bigSep Finset.univ fun k : Fin 7 => dutyTok ER (sendCell c h k) 0 0) ∗ (bigSep Finset.univ fun a : Fin 7 => dutyTok ER (recvCell c h a) 0 0))
/-- The tokens of device `c`'s own cells. -/
def toks (c : Dev nD) : sProp 𝕄 := iprop((bigSep Finset.univ fun k : Fin 7 => dutyTok ER (barCell c) 0 k) ∗ tokHalf c 0 ∗ tokHalf c 1)

def payHalf (c : Dev nD) (h : Fin 2) : sProp 𝕄 :=
  iprop((bigSep Finset.univ fun k : Fin 7 => dutyTok ER (sendCell c h k) 0 0) ∗ (bigSep Finset.univ fun k : Fin 7 => dutyTok ER (recvCell (peer c k) h k.rev) 0 0))
/-- The tokens of the payments that device `c` makes. -/
def payToks (c : Dev nD) : sProp 𝕄 :=
  iprop((bigSep Finset.univ fun k : Fin 7 => dutyTok ER (barCell (peer c k)) 0 k.rev) ∗ payHalf c 0 ∗ payHalf c 1)

/-- A family over the devices and the offsets, seen from the other end. -/
theorem bigSep_turn (Φ : Dev nD → Fin 7 → sProp 𝕄) :
    (bigSep Finset.univ fun c : Dev nD => bigSep Finset.univ fun k : Fin 7 => Φ c k)
      = bigSep Finset.univ fun c : Dev nD => bigSep Finset.univ fun k : Fin 7 => Φ (peer c k) k.rev := by
  rw [← bigSep_univ_prod (fun x : Dev nD × Fin 7 => Φ x.1 x.2), bigSep_univ_equiv turn, bigSep_univ_prod]; rfl

/-- The tokens go to the devices that pay with them. -/
theorem toks_around : (bigSep Finset.univ fun c : Dev nD => (toks c : sProp 𝕄)) ⊢ bigSep Finset.univ fun c : Dev nD => payToks c := by
  unfold toks payToks tokHalf payHalf
  simp only [bigSep_sep']
  rw [bigSep_turn (fun c k => dutyTok ER (barCell c) 0 k), bigSep_turn (fun c a => dutyTok ER (recvCell c 0 a) 0 0), bigSep_turn (fun c a => dutyTok ER (recvCell c 1 a) 0 0)]

/-! ## What the launch deals -/

def G (c : Dev nD) : sProp 𝕄 :=
  iprop((bigSep Finset.univ fun o => roundState ER (sched m ρ) (cellAt (c, o)) 0)
    ∗ (bigSep Finset.univ fun o => iprop(atPos ER (cellAt (c, o)) 0 ∅ 0 ∗ reached ER (cellAt (c, o)) 0)) ∗ toks c)

def linear (c : Dev nD) : sProp 𝕄 := iprop((bigSep Finset.univ fun o => atPos ER (cellAt (c, o)) 0 ∅ 0) ∗ payToks c)
def G' (c : Dev nD) : sProp 𝕄 := iprop(recs m ρ ∗ linear c)

theorem deal : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun o => Φ (cellAt (c, o)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    rw [bigSep_univ_sum, bigSep_univ_prod, bigSep_halves, bigSep_univ_sum, bigSep_univ_sum]
    unfold toks tokHalf
    rfl
  iintro H
  imod (Rounds.fund ER (sched m ρ) allCells allToks) $$ H with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters -/

def osem : Fin 30 → SemLoc sig := fun i => semAt (some i)
theorem ownSemFacts : Pipeline.OwnSemFacts cfg0.spec osem := by decide

theorem ownSems0_list (c : Dev nD) : (Pipeline.ownSems0 (Ix := Unit) (Name := ℕ) (U := UU) (Lvl := ℕ) (Val := Elt F) (τ := τ) osem c : sProp 𝕄)
    = bigSep Finset.univ fun i : Fin 30 => semVal ((c : Thread nD τ), osem i) 0 := rfl
theorem unscopedSems0_bar (c : Dev nD) : (unscopedSems0 c : sProp 𝕄) = semVal (barCell c) 0 := by
  unfold unscopedSems0; rw [bigSep_eq_bigSepL_of_eq [SemLoc.reg barS] (by decide) (by decide)]; rfl

/-- The counters of a device's cells: its own thirty and the barrier's. -/
theorem counters (c : Dev nD) :
    (bigSep Finset.univ fun o => semVal (cellAt (c, o)) 0 : sProp 𝕄)
      = iprop(unscopedSems0 c ∗ Pipeline.ownSems0 (Ix := Unit) (Name := ℕ) (U := UU) (Lvl := ℕ) (Val := Elt F) (τ := τ) osem c) := by
  rw [ownSems0_list, unscopedSems0_bar,
    bigSep_univ_eq_bigSepL (none :: (List.finRange 30).map some) (by decide +kernel) (by decide +kernel) (fun o => (semVal (cellAt (c, o)) 0 : sProp 𝕄)),
    bigSepL_cons', bigSepL_map, bigSep_univ_eq_bigSepL (List.finRange 30) (by decide +kernel) (by decide +kernel)]
  rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun o => iprop(∃ κ : ℕ, cellInv ER (sched m ρ) κ (cellAt (c, o))))
          ∗ (bigSep Finset.univ fun o => iprop(atPos ER (cellAt (c, o)) 0 ∅ 0 ∗ reached ER (cellAt (c, o)) 0)) ∗ toks c) := by
  unfold G
  iintro ⟨Hos, Hus, Hst, Hat, Htok⟩
  ihave Hv := (Entails.of_eq (counters (F := F) c).symm) $$ [Hos Hus]
  · isplitl [Hus] <;> iassumption
  imod (show iprop((bigSep Finset.univ fun o => semVal (cellAt (c, o)) 0) ∗ bigSep Finset.univ fun o => roundState ER (sched m ρ) (cellAt (c, o)) 0)
      ⊢ (|={Set.univ}=> bigSep Finset.univ fun o => iprop(∃ κ : ℕ, cellInv ER (sched m ρ) κ (cellAt (c, o))) : sProp 𝕄) from by
        rw [← bigSep_sep']
        exact (bigSep_mono fun o _ => (Rounds.body_intro ER (sched m ρ) (cellAt (c, o))).trans inv_alloc).trans (bigSep_fupd _ _)) $$ [Hv Hst] with Hinv
  · isplitl [Hv] <;> iassumption
  imodintro
  isplitl [Hinv]; · iexact Hinv
  isplitl [Hat]; · iexact Hat
  iexact Htok

/-- A persistent fact goes to every member of a family. -/
theorem bigSep_share {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  BIBase.Entails.trans (sep_mono_left (BI.bigSep_of_persistent S R)) (by rw [← bigSep_sep']; exact bigSep_mono h)

theorem known_join (g : GSem nD τ sig) : iprop((∃ κ : ℕ, cellInv ER (sched m ρ) κ g) ∗ reached ER g 0) ⊢ known m ρ g := by
  unfold known
  iintro ⟨⟨%κ, H⟩, Hr⟩
  iexists κ
  isplitl [H] <;> iassumption

theorem regroup :
    (bigSep Finset.univ fun c : Dev nD => iprop((bigSep Finset.univ fun o => iprop(∃ κ : ℕ, cellInv ER (sched m ρ) κ (cellAt (c, o))))
          ∗ (bigSep Finset.univ fun o => iprop(atPos ER (cellAt (c, o)) 0 ∅ 0 ∗ reached ER (cellAt (c, o)) 0)) ∗ toks c) : sProp 𝕄)
      ⊢ bigSep Finset.univ (G' m ρ) := by
  rw [bigSep_sep', bigSep_sep', ← bigSep_univ_prod (fun x : Dev nD × Option (Fin 30) => iprop(∃ κ : ℕ, cellInv ER (sched m ρ) κ (cellAt x))),
    bigSep_congr (s := Finset.univ) (fun (c : Dev nD) _ => bigSep_sep' Finset.univ (fun o : Option (Fin 30) => (atPos ER (cellAt (c, o)) 0 ∅ 0 : sProp 𝕄)) (fun o => reached ER (cellAt (c, o)) 0)),
    bigSep_sep', ← bigSep_univ_prod (fun x : Dev nD × Option (Fin 30) => (reached ER (cellAt x) 0 : sProp 𝕄))]
  iintro ⟨HI, ⟨Hat, HR⟩, Htok⟩
  ihave Htk := (toks_around (F := F)) $$ Htok
  ihave HK := (show iprop((bigSep Finset.univ fun x : Dev nD × Option (Fin 30) => iprop(∃ κ : ℕ, cellInv ER (sched m ρ) κ (cellAt x)))
      ∗ bigSep Finset.univ fun x : Dev nD × Option (Fin 30) => reached ER (cellAt x) 0) ⊢ recs m ρ from by
        rw [← bigSep_sep']; unfold recs; exact bigSep_mono fun x _ => known_join m ρ (cellAt x)) $$ [HI HR]
  · isplitl [HI] <;> iassumption
  iapply (bigSep_share (R := recs m ρ) (Φ := fun c => linear (F := F) c) fun c _ => by unfold G'; exact BI.Entails.refl _)
  isplitl [HK]; · iexact HK
  unfold linear
  rw [bigSep_sep']
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  BIBase.Entails.trans (BIBase.Entails.trans (bigSep_mono fun c _ => core_alloc m ρ c) (bigSep_fupd _ _)) (BI.fupd_mono (regroup m ρ))

/-! ## The launch credits -/

/-- A list of payments counts, at a cell, the payments to it. -/
theorem tallies_at (l : List (GSem nD τ sig × ℕ)) (g : GSem nD τ sig) :
    tallies l g () = ((l.filter fun x => decide (g = x.1)).map Prod.snd).sum := by
  induction l with
  | nil => rfl
  | cons x l ih =>
    unfold tallies
    rw [Pi.add_apply, Finsupp.add_apply, tallyAt_apply, ih]
    by_cases h : g = x.1
    · rw [if_pos ⟨h, rfl⟩, List.filter_cons_of_pos (by simpa using h), List.map_cons, List.sum_cons, Nat.add_comm]
    · rw [if_neg (fun hh => h hh.1), List.filter_cons_of_neg (by simpa using h), Nat.add_zero]

theorem count_bar (c : Dev nD) : (∑ d : Dev nD, (((dues d).filter fun x => decide (barCell c = x.1)).map Prod.snd).sum) = 7 := by
  revert c; decide +kernel
theorem count_recv (c : Dev nD) (h : Fin 2) (a : Fin 7) : (∑ d : Dev nD, (((dues d).filter fun x => decide (recvCell c h a = x.1)).map Prod.snd).sum) = N := by
  revert c h a; decide +kernel

theorem credit_at (g : GSem nD τ sig) (n : ℕ) (hn : (∑ d : Dev nD, (((dues d).filter fun x => decide (g = x.1)).map Prod.snd).sum) = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, ← hn]
  exact Finset.sum_congr rfl fun d _ => tallies_at (dues d) g

/-- The launch credit by cells: seven units on the barrier, a copy's worth on each receive cell. -/
theorem credits (c : Dev nD) :
    (Pipeline.launchCred O₀ c : sProp 𝕄) ⊢ iprop(cred (tallyAt (barCell c) () 7)
      ∗ (bigSep Finset.univ fun a => cred (tallyAt (recvCell c 0 a) () N)) ∗ (bigSep Finset.univ fun a => cred (tallyAt (recvCell c 1 a) () N))) := by
  unfold Pipeline.launchCred
  refine BIBase.Entails.trans (bigSep_subset (t := Finset.univ.map ⟨semAt, semAt_injective⟩) (Finset.subset_univ _)) ?_
  rw [bigSep_map, by_kind]
  unfold kindHalf
  simp only [Function.Embedding.coeFn_mk, semAt_recv, credit_at (recvCell c _ _) N (count_recv c _ _)]
  rw [show semAt none = .reg barS from rfl, credit_at (barCell c) 7 (count_bar c)]
  iintro ⟨HB, ⟨-, -, H0⟩, -, -, H1⟩
  isplitl [HB]; · iexact HB
  isplitl [H0] <;> iassumption

/-! ## What a device starts with -/

theorem half_start (c : Dev nD) (h : Fin 2) :
    iprop((kindHalf (F := F) (fun o => atPos ER (cellAt (c, o)) 0 ∅ 0) h ∗ payHalf c h) ∗ bigSep Finset.univ fun a => cred (tallyAt (recvCell c h a) () N))
      ⊢ (halfStart c h : sProp 𝕄) := by
  unfold kindHalf payHalf halfStart copyToks recvRes
  simp only [cellAt, semAt_send, semAt_recv, bigSep_sep']
  iintro ⟨⟨⟨HaS, Hsp, HaR⟩, HtS, HtR⟩, Hc⟩
  isplitl [HaS HtS HtR]
  · isplitl [HtS]; · iexact HtS
    isplitl [HtR] <;> iassumption
  isplitl [Hc HaR]
  · isplitl [Hc] <;> iassumption
  iexact Hsp

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G' linear payToks
  rw [by_kind, cellAt_none]
  iintro ⟨-, Hlev, Hcr, -, Hrec, ⟨HaB, Ha0, Ha1⟩, HtB, Ht0, Ht1⟩
  ihave Hc := (credits (F := F) c) $$ Hcr
  icases Hc with ⟨HcB, Hc0, Hc1⟩
  imodintro
  unfold start
  isplitl
  · isplitl [Hrec]; · iexact Hrec
    isplitl [Hlev]; · iexact Hlev
    isplitl [HcB HaB HtB]
    · isplitl [HcB]; · iexact HcB
      isplitl [HaB] <;> iassumption
    isplitl [Ha0 Ht0 Hc0]
    · iapply (half_start c 0)
      isplitl [Ha0 Ht0]
      · isplitl [Ha0] <;> iassumption
      iexact Hc0
    · iapply (half_start c 1)
      isplitl [Ha1 Ht1]
      · isplitl [Ha1] <;> iassumption
      iexact Hc1
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ partAny sendAny
  iintro ⟨Hs, -, Hr⟩
  isplitl [Hs]; · iexact Hs
  iexact Hr

theorem cells_end (c : Dev nD) :
    iprop(semVal (barCell c) 0 ∗ halfEnd c 0 ∗ halfEnd c 1) ⊢ (iprop(unscopedSems0 c ∗ Pipeline.ownSems0 osem c) : sProp 𝕄) := by
  rw [← counters, by_kind, cellAt_none]
  unfold halfEnd kindHalf
  simp only [cellAt, semAt_send, semAt_recv]
  iintro ⟨HB, ⟨HS0, HR0, Hz0⟩, HS1, HR1, Hz1⟩
  isplitl [HB]; · iexact HB
  isplitl [HS0 HR0 Hz0]
  · isplitl [HS0]; · iexact HS0
    isplitl [Hz0] <;> iassumption
  · isplitl [HS1]; · iexact HS1
    isplitl [Hz1] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ partAny sendAny
  iintro ⟨Hr, Hz⟩
  ihave Hz' := (cells_end (F := F) c) $$ Hz
  icases Hz' with ⟨HzB, HzO⟩
  isplitl [HzB]; · iexact HzB
  isplitl [HzO]; · iexact HzO
  iexact Hr

end Cert.Exchange

end
-- ==== Proof.Whole.lean ====
/-
# The run of the program

The body's obligation and the launch put together: from any memory with zero counters, on any float
values, the program terminates with the computed result in every device's result array, the argument
unchanged and every counter at zero.
-/
module

public import proofs.«01_k».proof.Proof.Run
public import proofs.«01_k».proof.Proof.Launch
public import Idealize.ShloMosaic.Lib.Quiescent
public import Idealize.ShloMosaic.Lib.Pipeline.CollectiveSegs

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The pipeline's obligation on the body, at its one step. -/
theorem body_obligation (c : Dev nD) : BodyObligation (dats (F := F) m ρ 0 c) (defs₀ (F := F)) 𝒱₀ () Set.univ := fun t => by
  rw [fin_N0 t, bigSep_W0, bigSep_W0]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3)
    (fun _ => bodyPost m ρ c)
  iintro H
  iapply (sound_body m ρ c fun _ => bodyPost m ρ c)
  isplitl [H]; · iexact H
  iintro H; iexact H

theorem share_full (c : Dev nD) (w : Fin cfg0.W) : (dats m ρ 0 c).share w = fullShare := by unfold Dat.share; split <;> rfl

/-- A wait at level 0 is allowed at the start, when every payment is owed, and at the end, when none is. -/
theorem mayWait_low (c : Dev nD) (sm : SemLoc sig) (hsm : lv ((c : Thread nD τ), sm) () = 0) (O : CellTallies nD τ sig Unit) (hO : O = O₀ c ∨ O = 0) :
    (levAts L lv : sProp 𝕄) ⊢ MayWait (c : Thread nD τ) sm () O := by
  rcases hO with rfl | rfl
  · exact mayWait_of c sm 0 (le_of_eq hsm) (dues c) fun x hx => mem_dues hx
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> rfl) _ (by
      rcases t with ⟨_ | _, ht⟩
      · exact Or.inl rfl
      · exact Or.inr rfl)

/-- The arrays at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- On eight devices, from any memory with zero counters: every weakly fair run of the program ends, with the arrays as computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (deal m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument holds what it held. -/
theorem finalA_arg (c : Dev nD) : finalA m ρ c (0 : Fin 2) = (s₀ m ρ).mem (win0_0.arr.view.loc (c : Thread nD τ)) :=
  (dats (F := F) m ρ 0 c).arrAt_in (0 : Fin 2) rfl _

/-- The result's one block, at the end. -/
theorem finalA_out (c : Dev nD) : (win0_1.blk (0 : Fin 1)).view.read (Elt F) (finalA m ρ c (1 : Fin 2)) = outC m ρ c := by
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

/-- The block of a device's argument is the argument. -/
theorem xstg_eq (c : Dev nD) : xstg m ρ c = m ((c.tc : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

/-- On eight devices, from any memory with zero counters: every run ends with each device's result in place, its argument
    unchanged and every counter at zero. -/
theorem run_kernel : θ_run defs (onTc (τ := τ) (main (F := F))) ⟨m, fun _ => 0, ρ⟩ fun r =>
    (∀ c : Dev nD, r.2.mem ((c.tc : Thread nD τ).loc main_v1) = outC m ρ c
      ∧ r.2.mem ((c.tc : Thread nD τ).loc main_arg0) = m ((c.tc : Thread nD τ).loc main_arg0)) ∧ r.2.sem = fun _ => 0 := by
  refine (θ_run defs _ _).mono (fun r h => ⟨fun c => ⟨(h.1 c (1 : Fin 2)).trans ?_, (h.1 c (0 : Fin 2)).trans (finalA_arg m ρ c)⟩, h.2⟩) (run_main m ρ)
  have hz : (fun a => (win0_1.index (0 : Fin 1)) a * main_v1.ty.shape.size a) = fun _ => 0 := funext fun a => by fin_cases a <;> decide
  exact (Memref.read_access_unit_zero (Elt F) main_v1 hz (fun a => by fin_cases a <;> decide) _).symm.trans (finalA_out m ρ c)

end Cert.Exchange

end
-- ==== Proof.Value.lean ====
/-
# The value, on the extended reals

Both programs return, of each column of the whole array, the maximum and the number of the first row that reaches
it. `Top` says so of a pair, and at most one pair has it (`top_unique`). The kernel's pair has it: each device's own
pair is its block's maximum and first row, and the fold over the devices returns the first of the eight pairs in
the order of `Before`. The reference's pair has it, by the same fold over the rows.
-/
module

public import proofs.«01_k».proof.Proof.Choice
public import proofs.«01_k».proof.Proof.Whole
public import Idealize.ShloMosaic.Lib.Layout

@[expose] public section

set_option maxRecDepth 16384

noncomputable section

namespace Cert.Exchange.Value

open Cert.KernelIdeal Cert.KernelIdeal.Gen
open Idealize.ShloMosaic Idealize.ShloMosaic.TcCoe
open Cert.ReferenceIdeal (S4096x512 S512 S1x512)

/-- A row number as a number. -/
abbrev num (n : ℕ) : EReal := (((n : ℤ) : ℝ) : EReal)

theorem num_le {a b : ℕ} : num a ≤ num b ↔ a ≤ b := by
  rw [EReal.coe_le_coe_iff, Int.cast_le, Int.ofNat_le]

/-- Of column `j` of `X` the pair is the maximum and the number of the first row that reaches it. -/
def Top (X : S4096x512.Idx → EReal) (j : ℕ) (p : EReal × EReal) : Prop :=
  ∃ k : S4096x512.Idx, (k 1).val = j ∧ X k = p.1 ∧ p.2 = num (k 0).val
    ∧ ∀ k' : S4096x512.Idx, (k' 1).val = j → X k' ≤ p.1 ∧ (X k' = p.1 → (k 0).val ≤ (k' 0).val)

theorem top_unique (X : S4096x512.Idx → EReal) (j : ℕ) (p q : EReal × EReal) (hp : Top X j p) (hq : Top X j q) : p = q := by
  obtain ⟨k, hk, hkp, hkn, hkb⟩ := hp
  obtain ⟨l, hl, hlq, hln, hlb⟩ := hq
  have e1 : p.1 = q.1 := le_antisymm (by rw [← hkp]; exact (hlb k hk).1) (by rw [← hlq]; exact (hkb l hl).1)
  have e0 : (k 0).val = (l 0).val := Nat.le_antisymm ((hkb l hl).2 (hlq.trans e1.symm)) ((hlb k hk).2 (hkp.trans e1))
  exact Prod.ext e1 (by rw [hkn, hln, e0])

/-- `Top` of a pair named by its parts. -/
theorem top_intro (X : S4096x512.Idx → EReal) (j : ℕ) (V I : EReal) (k : S4096x512.Idx) (hk : (k 1).val = j) (hv : X k = V) (hi : I = num (k 0).val)
    (h : ∀ k' : S4096x512.Idx, (k' 1).val = j → X k' ≤ V ∧ (X k' = V → (k 0).val ≤ (k' 0).val)) : Top X j (V, I) := ⟨k, hk, hv, hi, h⟩

/-- Two pairs with it agree part by part. -/
theorem top_parts (X : S4096x512.Idx → EReal) (j : ℕ) (V I V' I' : EReal) (h : Top X j (V, I)) (h' : Top X j (V', I')) : V = V' ∧ I = I' :=
  Prod.mk.inj (top_unique X j _ _ h h')

/-- The first pair has the larger number or the same with a second component not after the other's. -/
def Before {β : Type} (le : β → β → Prop) (p q : EReal × β) : Prop := q.1 < p.1 ∨ q.1 = p.1 ∧ le p.2 q.2

theorem before_refl {β : Type} (le : β → β → Prop) (h : ∀ a, le a a) (p : EReal × β) : Before le p p := Or.inr ⟨rfl, h _⟩

theorem before_trans {β : Type} (le : β → β → Prop) (h : ∀ a b c, le a b → le b c → le a c) (p q r : EReal × β) :
    Before le p q → Before le q r → Before le p r := by
  rintro (h1 | ⟨h1, g1⟩) (h2 | ⟨h2, g2⟩)
  · exact Or.inl (lt_trans h2 h1)
  · exact Or.inl (by rw [h2]; exact h1)
  · exact Or.inl (by rw [← h1]; exact h2)
  · exact Or.inr ⟨h2.trans h1, h _ _ _ g1 g2⟩

theorem before_le {β : Type} (le : β → β → Prop) (p q : EReal × β) (h : Before le p q) : q.1 ≤ p.1 := h.elim le_of_lt fun h => le_of_eq h.1

theorem bits_or_and (a b c : Bool) : IntOp.ori (BitVec.ofBool a) (IntOp.andi (BitVec.ofBool b) (BitVec.ofBool c)) = BitVec.ofBool (a || b && c) := by
  cases a <;> cases b <;> cases c <;> rfl

theorem select_ofBool {α : Type} (p : Bool) (a b : α) : Scalar.select (BitVec.ofBool p) a b = if p then a else b := by
  cases p <;> rfl

/-! ## The fold over the devices -/

/-- Of two pairs the one that comes first, the first on a tie. -/
def pick (p r : EReal × EReal) : EReal × EReal := if decide (p.1 < r.1) || decide (r.1 = p.1) && decide (r.2 < p.2) then r else p

theorem pick_best (p r : EReal × EReal) : (pick p r = p ∨ pick p r = r) ∧ Before (· ≤ ·) (pick p r) p ∧ Before (· ≤ ·) (pick p r) r := by
  unfold pick
  by_cases h : p.1 < r.1 ∨ r.1 = p.1 ∧ r.2 < p.2
  · rw [if_pos (by simpa using h)]
    refine ⟨Or.inr rfl, ?_, before_refl _ le_refl r⟩
    exact h.imp id fun h => ⟨h.1.symm, le_of_lt h.2⟩
  · rw [if_neg (by simpa using h)]
    refine ⟨Or.inl rfl, before_refl _ le_refl p, ?_⟩
    push Not at h
    rcases lt_or_eq_of_le h.1 with h1 | h1
    · exact Or.inl h1
    · exact Or.inr ⟨h1, h.2 h1⟩

/-- A pair of rows at a column. -/
def pairAt (p : Rows Ideal) (q : S1x256.Idx) : EReal × EReal := (p.1 q, p.2 q)

theorem comb_at (p r : Rows Ideal) (q : S1x256.Idx) : pairAt (comb p r) q = pick (pairAt p q) (pairAt r q) := by
  have ht : takes p.1 p.2 r.1 r.2 q = BitVec.ofBool (decide ((pairAt p q).1 < (pairAt r q).1)
      || decide ((pairAt r q).1 = (pairAt p q).1) && decide ((pairAt r q).2 < (pairAt p q).2)) := bits_or_and _ _ _
  have hs : ∀ a b : FVec Ideal S1x256 .f32, select (takes p.1 p.2 r.1 r.2) a b q = if (decide ((pairAt p q).1 < (pairAt r q).1)
      || decide ((pairAt r q).1 = (pairAt p q).1) && decide ((pairAt r q).2 < (pairAt p q).2)) then a q else b q := fun a b => by
    show Scalar.select (takes p.1 p.2 r.1 r.2 q) (a q) (b q) = _
    rw [ht, select_ofBool]
  unfold pick
  have e : pairAt (comb p r) q = (select (takes p.1 p.2 r.1 r.2) r.1 p.1 q, select (takes p.1 p.2 r.1 r.2) r.2 p.2 q) := rfl
  rw [e, hs, hs]
  split <;> rfl

variable (m : (ℓ : Loc nD τ sig) → Buf (Elt Ideal) ℓ) (ρ : Dev nD → PrngReg)

theorem fold_at (c : Dev nD) (h : Fin 2) (q : S1x256.Idx) (l : List (Fin 7)) (p : Rows Ideal) :
    pairAt (l.foldl (fun p a => comb p (loc m ρ (rot c a.succ) h)) p) q
      = (l.map fun a => pairAt (loc m ρ (rot c a.succ) h) q).foldl pick (pairAt p q) := by
  induction l generalizing p with
  | nil => rfl
  | cons a l ih => rw [List.foldl_cons, List.map_cons, List.foldl_cons, ih, comb_at]

/-- Every device is the own one or one of the seven others. -/
theorem all_devices (c d : Dev nD) : d = c ∨ ∃ a ∈ ks, rot c a.succ = d := by revert c d; decide

/-- The winner's pair is one of the devices' and comes before each. -/
theorem winner_best (c : Dev nD) (h : Fin 2) (q : S1x256.Idx) :
    (∃ d : Dev nD, pairAt (winner m ρ c h) q = pairAt (loc m ρ d h) q)
      ∧ ∀ d : Dev nD, Before (· ≤ ·) (pairAt (winner m ρ c h) q) (pairAt (loc m ρ d h) q) := by
  obtain ⟨h1, h2, h3⟩ := fold_best pick (Before (· ≤ ·)) (before_refl _ le_refl) (before_trans _ fun _ _ _ => le_trans) pick_best
    (ks.map fun a => pairAt (loc m ρ (rot c a.succ) h) q) (pairAt (loc m ρ c h) q)
  rw [← fold_at] at h1 h2 h3
  refine ⟨?_, fun d => ?_⟩
  · rcases h1 with h1 | h1
    · exact ⟨c, h1⟩
    · obtain ⟨a, -, ha⟩ := List.mem_map.mp h1
      exact ⟨rot c a.succ, ha.symm⟩
  · rcases all_devices c d with rfl | ⟨a, ha, rfl⟩
    · exact h2
    · exact h3 _ (List.mem_map_of_mem ha)

/-! ## A device's own pair, in the whole array -/

set_option backward.proofsInPublic true in
/-- Where an element of half `h` of device `c`'s block stands in the whole array. -/
def big (c : Dev nD) (h : Fin 2) (i : S512x256.Idx) : S4096x512.Idx := fun a => match a with
  | ⟨0, _⟩ => ⟨c.val * 512 + (i 0).val, by have := c.isLt; have : (i 0).val < 512 := (i 0).isLt; show _ < 4096; have : c.val < 8 := c.isLt; omega⟩
  | ⟨1, _⟩ => ⟨256 * h.val + (i 1).val, by have := h.isLt; have : (i 1).val < 256 := (i 1).isLt; show _ < 512; omega⟩

/-- Every element of the whole array stands in some device's block. -/
theorem big_onto (k : S4096x512.Idx) (h : Fin 2) (q : S1x256.Idx) (hk : (k 1).val = 256 * h.val + (q 1).val) :
    ∃ (d : Dev nD) (i : S512x256.Idx), i 1 = q 1 ∧ big d h i = k := by
  have h0 : (k 0).val < 4096 := (k 0).isLt
  refine ⟨⟨(k 0).val / 512, by show _ < 8; omega⟩, at512 ⟨(k 0).val % 512, by omega⟩ q, rfl, funext fun a => ?_⟩
  match a with
  | ⟨0, _⟩ => exact Fin.ext (by show (k 0).val / 512 * 512 + (k 0).val % 512 = (k 0).val; omega)
  | ⟨1, _⟩ => exact Fin.ext (by show 256 * h.val + (q 1).val = (k 1).val; omega)

/-- The whole array is the eight blocks, one under the other. -/
theorem tiles : Layout.Tiles ⟨2, ![512, 512]⟩ ⟨2, ![4096, 512]⟩ 0 8 := by decide

theorem word_eq (c : Dev nD) : word c = BitVec.ofNat 32 c.val := by revert c; decide

section
variable (X : S4096x512.Idx → EReal)
  (hX : ∀ c : Dev nD, m ((c.tc : Thread nD τ).loc main_arg0) = Layout.block ⟨2, ![512, 512]⟩ ⟨2, ![4096, 512]⟩ 0 8 c X tiles)
include hX

/-- A half of a device's block, as elements of the whole array. -/
theorem half_eq (c : Dev nD) (h : Fin 2) (i : S512x256.Idx) : (xhalf m ρ c h i : EReal) = X (big c h i) := by
  show (xstg m ρ c) ((xR h).toLoadRect.idx i) = _
  rw [xstg_eq, hX, Layout.block_apply]
  refine congrArg X (funext fun a => Fin.ext ?_)
  rw [Layout.Tiles.idx_val]
  match a with
  | ⟨0, _⟩ => show c.val * 512 + (0 + 1 * (i 0).val) = c.val * 512 + (i 0).val; omega
  | ⟨1, _⟩ => show 256 * h.val + 1 * (i 1).val = 256 * h.val + (i 1).val; omega

/-- A device's own pair: an element of its block that is the block's maximum in the column, and the first row with it. -/
theorem loc_best (c : Dev nD) (h : Fin 2) (q : S1x256.Idx) :
    ∃ i : S512x256.Idx, i 1 = q 1 ∧ X (big c h i) = (pairAt (loc m ρ c h) q).1 ∧ (pairAt (loc m ρ c h) q).2 = num (big c h i 0).val
      ∧ ∀ i' : S512x256.Idx, i' 1 = q 1 → X (big c h i') ≤ (pairAt (loc m ρ c h) q).1
        ∧ (X (big c h i') = (pairAt (loc m ρ c h) q).1 → (big c h i 0).val ≤ (big c h i' 0).val) := by
  obtain ⟨i, hi, hv, hw, hb⟩ := first_best (xhalf m ρ c h) q
  obtain ⟨-, hle⟩ := locV_best (xhalf m ρ c h) q
  have e1 : (pairAt (loc m ρ c h) q).1 = k0_pay2 (xhalf m ρ c h) q := by dsimp only [pairAt, loc, locV]
  have i0 : (i 0).val < 512 := (i 0).isLt
  have c8 : c.val < 8 := c.isLt
  refine ⟨i, hi, by rw [e1, ← half_eq m ρ X hX]; exact hv, ?_, fun i' hi' => ⟨?_, fun he => ?_⟩⟩
  · refine (locI_fold (xhalf m ρ c h) q (word c)).trans ?_
    have hf : firstWord (xhalf m ρ c h) q = BitVec.ofNat 32 (i 0).val :=
      BitVec.eq_of_toInt_eq (hw.trans (WordCmp.toInt_ofNat_of_lt (by omega)).symm)
    have hs : firstWord (xhalf m ρ c h) q + word c * 512#32 = BitVec.ofNat 32 (c.val * 512 + (i 0).val) := by
      rw [hf, word_eq, BitVec.ofNat_add, BitVec.ofNat_mul, BitVec.add_comm]
    rw [hs, WordCmp.toInt_ofNat_of_lt (by omega)]
    rfl
  · rw [e1, ← half_eq m ρ X hX]; exact hle i' hi'
  · rw [e1, ← half_eq m ρ X hX] at he
    have := hb i' hi' he
    show c.val * 512 + (i 0).val ≤ c.val * 512 + (i' 0).val
    omega

/-- The kernel's pair. -/
theorem top_winner (c : Dev nD) (h : Fin 2) (q : S1x256.Idx) : Top X (256 * h.val + (q 1).val) (pairAt (winner m ρ c h) q) := by
  obtain ⟨⟨d, hd⟩, hall⟩ := winner_best m ρ c h q
  obtain ⟨i, hi, hv, hn, -⟩ := loc_best m ρ X hX d h q
  refine ⟨big d h i, congrArg (fun z : Fin 256 => 256 * h.val + z.val) hi, by rw [hd]; exact hv, by rw [hd]; exact hn, fun k' hk' => ?_⟩
  obtain ⟨d', i', hi', rfl⟩ := big_onto k' h q hk'
  obtain ⟨l, hl, hlv, hln, hlb⟩ := loc_best m ρ X hX d' h q
  have hle := before_le _ _ _ (hall d')
  refine ⟨le_trans (hlb i' hi').1 hle, fun he => ?_⟩
  have e : (pairAt (loc m ρ d' h) q).1 = (pairAt (winner m ρ c h) q).1 := le_antisymm hle (by rw [← he]; exact (hlb i' hi').1)
  rcases hall d' with hlt | ⟨-, h2⟩
  · exact absurd e (ne_of_lt hlt)
  · rw [hln, hd, hn] at h2
    exact le_trans (num_le.mp h2) ((hlb i' hi').2 (he.trans e.symm))

end

/-! ## The reference's pair -/

section
variable (X : FVec Ideal S4096x512 .f32) (j : S512.Idx)
open Cert.ReferenceIdeal.Gen (reducesTo_S4096x512_S512_d0 h_S_)

theorem drop_ref (i : S4096x512.Idx) : reducesTo_S4096x512_S512_d0.drop i = j ↔ (i 1).val = (j 0).val := by
  constructor
  · intro h
    exact (reducesTo_S4096x512_S512_d0.drop_apply_val_of_eq i 0 1).symm.trans (congrArg Fin.val (congrFun h 0))
  · intro h
    funext b
    fin_cases b
    exact Fin.ext ((reducesTo_S4096x512_S512_d0.drop_apply_val_of_eq i 0 1).trans h)

/-- Row 0 of the column of `j`. -/
def row0 : S4096x512.Idx := fun a => match a with
  | ⟨0, _⟩ => (0 : Fin 4096)
  | ⟨1, _⟩ => j 0

/-- The reference's maximum of a column is reached and bounds the column. -/
theorem refMax_best : (∃ i : S4096x512.Idx, (i 1).val = (j 0).val ∧ (X i : EReal) = Ref.refMax X j)
    ∧ ∀ i : S4096x512.Idx, (i 1).val = (j 0).val → (X i : EReal) ≤ Ref.refMax X j := by
  have e : (Ref.refMax X j : EReal) = (((List.finRange S4096x512.numel).map S4096x512.rowMajor.symm).filter fun i =>
      reducesTo_S4096x512_S512_d0.drop i = j).foldl (fun r i => max r (X i : EReal)) ⊥ := by
    unfold Ref.refMax
    refine (Host.reduce_eq_foldl _ _ _ _ _ _).trans ?_
    rw [show constant (F := Ideal) Cert.ReferenceIdeal.S_ .f32 0xFF800000#32 (Shape.Idx.first h_S_) = (⊥ : EReal) from bot_bits]
    rfl
  have hm : ∀ i : S4096x512.Idx, i ∈ (((List.finRange S4096x512.numel).map S4096x512.rowMajor.symm).filter fun i =>
      reducesTo_S4096x512_S512_d0.drop i = j) ↔ (i 1).val = (j 0).val := fun i => by
    rw [List.mem_filter, decide_eq_true_eq, drop_ref]
    exact ⟨fun h => h.2, fun h => ⟨mem_all i, h⟩⟩
  have h := fold_max (fun i => (X i : EReal)) _ (row0 j) ((hm _).mpr rfl)
  rw [← e] at h
  obtain ⟨⟨i, hi, he⟩, h2⟩ := h
  exact ⟨⟨i, (hm i).mp hi, he⟩, fun i hi => h2 i ((hm i).mpr hi)⟩

/-- The order of the reference's arg-max. -/
abbrev wordLe (a b : BitVec 32) : Prop := a.toInt ≤ b.toInt

theorem reducer_eq (a b : EReal × BitVec 32) : Cert.ReferenceIdeal.reducer_argmax_f32_i32 (F := Ideal) a b
    = if decide (b.1 < a.1) || decide (a.1 = b.1) && a.2.slt b.2 then a else b := by
  have h4 : IntOp.ori (Ideal.cmp .ogt a.1 b.1) (Ideal.cmp .une a.1 a.1) = BitVec.ofBool (decide (b.1 < a.1)) := by
    simp only [Ideal.cmp, IntOp.ori, ne_eq, not_true_eq_false, decide_false, BitVec.ofBool_false]
    exact BitVec.or_zero
  show (Scalar.select (IntOp.ori (Ideal.cmp .ogt a.1 b.1) (Ideal.cmp .une a.1 a.1)) a.1 b.1,
    Scalar.select (IntOp.ori (IntOp.ori (Ideal.cmp .ogt a.1 b.1) (Ideal.cmp .une a.1 a.1))
      (IntOp.andi (BitVec.ofBool (decide (a.1 = b.1))) (BitVec.ofBool (a.2.slt b.2)))) a.2 b.2) = _
  rw [h4, bits_or_and, select_ofBool, select_ofBool]
  by_cases h : b.1 < a.1
  · simp only [h, decide_true, Bool.true_or, if_true]
  · by_cases he : a.1 = b.1
    · simp only [h, he, decide_false, decide_true, Bool.false_or, Bool.true_and]
      rw [if_neg (by simp)]
      split
      · exact Prod.ext he.symm rfl
      · rfl
    · simp only [h, he, decide_false, Bool.false_or, Bool.false_and]
      rfl

theorem reducer_best (a b : EReal × BitVec 32) : (Cert.ReferenceIdeal.reducer_argmax_f32_i32 (F := Ideal) a b = a ∨ Cert.ReferenceIdeal.reducer_argmax_f32_i32 (F := Ideal) a b = b)
    ∧ Before wordLe (Cert.ReferenceIdeal.reducer_argmax_f32_i32 (F := Ideal) a b) a ∧ Before wordLe (Cert.ReferenceIdeal.reducer_argmax_f32_i32 (F := Ideal) a b) b := by
  rw [reducer_eq]
  by_cases h : b.1 < a.1 ∨ a.1 = b.1 ∧ a.2.toInt < b.2.toInt
  · rw [if_pos (by simpa [BitVec.slt_iff_toInt_lt] using h)]
    exact ⟨Or.inl rfl, before_refl wordLe (fun _ => le_refl _) a, h.imp id fun h => ⟨h.1.symm, le_of_lt h.2⟩⟩
  · rw [if_neg (by simpa [BitVec.slt_iff_toInt_lt] using h)]
    refine ⟨Or.inr rfl, ?_, before_refl wordLe (fun _ => le_refl _) b⟩
    push Not at h
    rcases lt_or_eq_of_le h.1 with h1 | h1
    · exact Or.inl h1
    · exact Or.inr ⟨h1, h.2 h1⟩

/-- The reference's pair. -/
theorem top_ref : Top X (j 0).val (Ref.refMax X j, sitofp (F := Ideal) .f32 (Ref.refArg X) j) := by
  obtain ⟨⟨iv, hiv, hev⟩, hbv⟩ := refMax_best X j
  obtain ⟨h1, h2, h3⟩ := fold_best (Cert.ReferenceIdeal.reducer_argmax_f32_i32 (F := Ideal)) (Before wordLe) (before_refl _ fun _ => le_refl _)
    (before_trans _ fun _ _ _ => le_trans) reducer_best
    (Host.argReduceFiber (fun i => (X i : EReal)) (iotaInDim S4096x512 32 0) reducesTo_S4096x512_S512_d0 j) (⊥, 0#32)
  generalize hP : List.foldl (Cert.ReferenceIdeal.reducer_argmax_f32_i32 (F := Ideal)) (⊥, 0#32)
    (Host.argReduceFiber (fun i => (X i : EReal)) (iotaInDim S4096x512 32 0) reducesTo_S4096x512_S512_d0 j) = P at h1 h2 h3
  have hA : Ref.refArg X j = P.2 := by
    rw [← hP]
    unfold Ref.refArg
    rw [Ideal.argReduce_eq_reduce2, Host.reduce2_eq_foldl_fiber]
    rw [show constant (F := Ideal) Cert.ReferenceIdeal.S_ .f32 0xFF800000#32 (Shape.Idx.first h_S_) = (⊥ : EReal) from bot_bits]
    rfl
  have hmem : ∀ i : S4096x512.Idx, (i 1).val = (j 0).val → ((X i : EReal), BitVec.ofNat 32 (i 0).val)
      ∈ Host.argReduceFiber (fun i => (X i : EReal)) (iotaInDim S4096x512 32 0) reducesTo_S4096x512_S512_d0 j := fun i hi => by
    unfold Host.argReduceFiber
    refine List.mem_map.mpr ⟨S4096x512.rowMajor i, List.mem_filter.mpr ⟨List.mem_finRange _, ?_⟩, ?_⟩
    · rw [decide_eq_true_eq, Equiv.symm_apply_apply, drop_ref]; exact hi
    · rw [Equiv.symm_apply_apply]; rfl
  have hw : ∀ i : S4096x512.Idx, (BitVec.ofNat 32 (i 0).val).toInt = (i 0).val := fun i =>
    WordCmp.toInt_ofNat_of_lt (by have : (i 0).val < 4096 := (i 0).isLt; omega)
  have hbest : ∀ i : S4096x512.Idx, (i 1).val = (j 0).val → Before wordLe P ((X i : EReal), BitVec.ofNat 32 (i 0).val) := fun i hi => h3 _ (hmem i hi)
  have hex : ∃ k : S4096x512.Idx, (k 1).val = (j 0).val ∧ (X k : EReal) = P.1 ∧ P.2 = BitVec.ofNat 32 (k 0).val := by
    rcases h1 with h1 | h1
    · refine ⟨row0 j, rfl, le_antisymm (before_le _ _ _ (hbest (row0 j) rfl)) ?_, ?_⟩
      · rw [h1]; exact bot_le
      · rw [h1]; rfl
    · unfold Host.argReduceFiber at h1
      obtain ⟨n, hn, he⟩ := List.mem_map.mp h1
      refine ⟨S4096x512.rowMajor.symm n, (drop_ref j _).mp (of_decide_eq_true (List.mem_filter.mp hn).2), ?_, ?_⟩
      · rw [← he]
      · rw [← he]; rfl
  obtain ⟨k, hk, hkv, hkw⟩ := hex
  have hV : (Ref.refMax X j : EReal) = P.1 := le_antisymm (by rw [← hev]; exact before_le _ _ _ (hbest iv hiv)) (by rw [← hkv]; exact hbv k hk)
  refine top_intro X (j 0).val _ _ k hk (hkv.trans hV.symm) ?_ fun k' hk' => ⟨hbv k' hk', fun he => ?_⟩
  · show (((Ref.refArg X j).toInt : ℝ) : EReal) = _
    rw [hA, hkw, hw]
  · rcases hbest k' hk' with hlt | ⟨-, hle⟩
    · exact absurd (he.trans hV) (ne_of_lt hlt)
    · unfold wordLe at hle
      rw [hkw, hw, hw] at hle
      exact_mod_cast hle

/-- Row 0 of the reference's result holds the maxima, -/
theorem refOut_row0 (i : Cert.ReferenceIdeal.S2x512.Idx) (hi : (i 0).val = 0) (hj : (j 0).val = (i 1).val) : Ref.refOut X i = Ref.refMax X j := by
  unfold Ref.refOut
  refine (concatenate_pair_apply_left (t := Cert.ReferenceIdeal.S2x512) (s₁ := S1x512) (s₂ := S1x512) 0 _ _ _ i rfl (fun a => match a with | ⟨0, _⟩ => (0 : Fin 1) | ⟨1, _⟩ => i 1) (fun b => ?_)).trans
    (broadcastInDim_apply _ _ _ _ j fun a => ?_)
  · fin_cases b
    · exact hi.symm
    · rfl
  · fin_cases a; exact hj

/-- and row 1 the positions. -/
theorem refOut_row1 (i : Cert.ReferenceIdeal.S2x512.Idx) (hi : (i 0).val = 1) (hj : (j 0).val = (i 1).val) : Ref.refOut X i = sitofp (F := Ideal) .f32 (Ref.refArg X) j := by
  unfold Ref.refOut
  refine (concatenate_pair_apply_right (t := Cert.ReferenceIdeal.S2x512) (s₁ := S1x512) (s₂ := S1x512) 0 _ _ _ i rfl rfl (fun a => match a with | ⟨0, _⟩ => (0 : Fin 1) | ⟨1, _⟩ => i 1) (fun b hb => ?_) ?_).trans
    (broadcastInDim_apply _ _ _ _ j fun a => ?_)
  · fin_cases b
    · exact absurd rfl hb
    · rfl
  · exact hi.symm
  · fin_cases a; exact hj

end

/-- The index of a column. -/
def colIx (n : Fin 512) : S512.Idx := fun a => match a with
  | ⟨0, _⟩ => n

/-- On every device the kernel's result is the reference's. -/
theorem out_ref (X : FVec Ideal S4096x512 .f32)
    (hX : ∀ c : Dev nD, m ((c.tc : Thread nD τ).loc main_arg0) = Layout.block ⟨2, ![512, 512]⟩ ⟨2, ![4096, 512]⟩ 0 8 c X tiles) (c : Dev nD) :
    outC m ρ c = Ref.refOut X := by
  funext i
  have i0 : (i 0).val < 2 := (i 0).isLt
  have i1 : (i 1).val < 512 := (i 1).isLt
  have hh : (i 1).val / 256 % 2 < 2 := Nat.mod_lt _ (by decide)
  obtain ⟨kv, ki⟩ := top_parts X (i 1).val _ _ _ _
    (by
      have h := top_winner m ρ X hX c ⟨(i 1).val / 256 % 2, hh⟩ (col (i 1).val)
      unfold pairAt at h
      rwa [show 256 * ((i 1).val / 256 % 2) + (col (i 1).val 1).val = (i 1).val from by
        show 256 * ((i 1).val / 256 % 2) + (i 1).val % 256 = (i 1).val; omega] at h)
    (top_ref X (colIx (i 1)))
  unfold outC
  by_cases hr : (i 0).val = 0
  · rw [if_pos hr]
    exact kv.trans (refOut_row0 X (colIx (i 1)) i hr rfl).symm
  · rw [if_neg hr]
    exact ki.trans (refOut_row1 X (colIx (i 1)) i (by omega) rfl).symm

end Cert.Exchange.Value

end
-- ==== Proof.lean ====
/-
# The certificate

`run_kernel` is stated over any float values; the kernel and its idealization have the same text, so it gives both
frames. The results agree on the extended reals by `Value.out_ref`.
-/
module

public import proofs.«01_k».proof.Defs
public import proofs.«01_k».proof.Proof.Value
public import proofs.«01_k».proof.Proof.Gen.Kernel

@[expose] public section

noncomputable section

namespace Cert.Proof

open Idealize.ShloMosaic Idealize.SL.Sem
open Cert.Exchange

/-- The body tables of the kernel and of its idealization agree, row by row. -/
theorem kernel_defs₀ : Cert.Kernel.defs₀ (F := Bits) = Cert.KernelIdeal.defs₀ (F := Bits) := by
  unfold Cert.Kernel.defs₀ Cert.KernelIdeal.defs₀
  refine congrArg Defs.onTc ?_
  funext l x
  match l with
  | 0 => rfl

theorem kernel_defs : Cert.Kernel.defs (F := Bits) = Cert.KernelIdeal.defs (F := Bits) := by
  unfold Cert.Kernel.defs Cert.KernelIdeal.defs
  exact congrArg (Pipeline.defs Cert.Kernel.pcfgs) kernel_defs₀

/-- The kernel runs, keeps its argument and leaves every counter at zero. -/
theorem frame_kernel : Cert.quiescent_Kernel := fun m ρ _ => by
  have h : θ_run (Cert.KernelIdeal.defs (F := Bits)) (onTc (τ := Cert.KernelIdeal.τ) (Cert.KernelIdeal.main (F := Bits))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
    (θ_run Cert.KernelIdeal.defs _ _).mono (fun _ h => ⟨fun c => (h.1 c).2, h.2⟩) (run_kernel (F := Bits) m ρ)
  exact (congrArg (fun D => θ_run D (onTc (τ := Cert.Kernel.τ) (Cert.Kernel.main (F := Bits))) ⟨m, fun _ => 0, ρ⟩ (fun r =>
      (∀ c : Dev Cert.Kernel.nD, r.2.mem ((c.tc : Thread Cert.Kernel.nD Cert.Kernel.τ).loc Cert.Kernel.main_arg0)
        = m ((c.tc : Thread Cert.Kernel.nD Cert.Kernel.τ).loc Cert.Kernel.main_arg0)) ∧ r.2.sem = fun _ => 0)) kernel_defs).mpr h

/-- So does its idealization. -/
theorem frame_ideal : Cert.quiescent_KernelIdeal := fun m ρ _ =>
  (θ_run Cert.KernelIdeal.defs _ _).mono (fun _ h => ⟨fun c => (h.1 c).2, h.2⟩) (run_kernel (F := Ideal) m ρ)

/-- So does the reference. -/
theorem frame_reference : Cert.quiescent_ReferenceIdeal := fun m ρ _ =>
  (θ_run Cert.ReferenceIdeal.defs _ _).mono (fun _ h => ⟨fun c => (h.1 c).2, h.2⟩) (Ref.run_ref (F := Ideal) m ρ)

/-- On the extended reals every device ends with the reference's result. -/
theorem results_agree : Cert.algebraic_KernelIdeal_ReferenceIdeal := fun m ρ m' ρ' _ hX =>
  ⟨Ref.refOut (F := Ideal) (m' (((0 : Dev Cert.ReferenceIdeal.nD).tc : Thread Cert.ReferenceIdeal.nD Cert.ReferenceIdeal.τ).loc Cert.ReferenceIdeal.main_arg0)),
    (θ_run Cert.KernelIdeal.defs _ _).mono (fun _ h c => ⟨(h.1 c).1.trans (Value.out_ref m ρ _ hX c), (h.1 c).2⟩) (run_kernel (F := Ideal) m ρ),
    (θ_run Cert.ReferenceIdeal.defs _ _).mono (fun _ h => h.1 0) (Ref.run_ref (F := Ideal) m' ρ')⟩

theorem claim : Cert.Claim :=
  ⟨Cert.Kernel.Gen.facts, Cert.KernelIdeal.Gen.facts, Cert.ReferenceIdeal.Gen.facts,
    frame_kernel, frame_ideal, frame_reference, trivial, results_agree⟩

end Cert.Proof

end
